-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x768 : Shape := ⟨2, ![8192, 768]⟩
abbrev S768x2048 : Shape := ⟨2, ![768, 2048]⟩
abbrev S_ : Shape := ⟨0, ![]⟩

class Facts : Prop where
  bcast_S_S8192x768 : S_.BroadcastsInDim S8192x768 (![] : Fin 0 → Fin S8192x768.rank)
  bcast_S_S768x2048 : S_.BroadcastsInDim S768x2048 (![] : Fin 0 → Fin S768x2048.rank)

variable [Facts]

def fn {F : FTy → Type} [FloatOps F] (main_arg0 : FVec F S8192x768 .f32) (main_arg1 : FVec F S768x2048 .f32) : IVec S8192x768 1 × IVec S768x2048 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_v3 : FVec F S768x2048 .f32 := Host.absf main_arg1
  let main_cst_0 : FVec F S_ .f32 := constant S_ .f32 0x7F800000#32
  let main_v4 : FVec F S768x2048 .f32 := broadcastInDim S768x2048 ![] bcast_S_S768x2048 main_cst_0
  let main_v5 : IVec S768x2048 1 := cmpf .olt main_v3 main_v4
  (main_v2, main_v5)
-- ==== Kernel.lean ====
abbrev S8192x768 : Shape := ⟨2, ![8192, 768]⟩
abbrev S768x2048 : Shape := ⟨2, ![768, 2048]⟩
abbrev S8192x2048 : Shape := ⟨2, ![8192, 2048]⟩
abbrev S8192 : Shape := ⟨1, ![8192]⟩
abbrev S1024x768 : Shape := ⟨2, ![1024, 768]⟩
abbrev S1024x2048 : Shape := ⟨2, ![1024, 2048]⟩
abbrev S1024 : Shape := ⟨1, ![1024]⟩
abbrev S1x2048 : Shape := ⟨2, ![1, 2048]⟩
abbrev S1024x128 : Shape := ⟨2, ![1024, 128]⟩
abbrev S2048 : Shape := ⟨1, ![2048]⟩
abbrev S1024x1 : Shape := ⟨2, ![1024, 1]⟩
abbrev S768x1024 : Shape := ⟨2, ![768, 1024]⟩
abbrev S1024x1024 : Shape := ⟨2, ![1024, 1024]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S8192x2048, .f32⟩
  | .hbm, ⟨3, _⟩ => ⟨S8192, .i32⟩
  | .local _ .vmem, ⟨0, _⟩ => ⟨S1024x768, .f32⟩
  | .local _ .vmem, ⟨1, _⟩ => ⟨S1024x768, .f32⟩
  | .local _ .vmem, ⟨2, _⟩ => ⟨S768x2048, .f32⟩
  | .local _ .vmem, ⟨3, _⟩ => ⟨S1024x2048, .f32⟩
  | .local _ .vmem, ⟨4, _⟩ => ⟨S1024x2048, .f32⟩
  | .local _ .vmem, ⟨5, _⟩ => ⟨S1024, .i32⟩
  | .local _ .vmem, ⟨6, _⟩ => ⟨S1024, .i32⟩
  | .local _ .vmem, ⟨7, _⟩ => ⟨S1x2048, .f32⟩
  | .local _ .vmem, ⟨8, _⟩ => ⟨S768x2048, .bf16⟩
  | .local _ .vmem, ⟨9, _⟩ => ⟨S1024x128, .f32⟩
  | .local _ .vmem, ⟨10, _⟩ => ⟨S1024x128, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x768 : Shape := ⟨2, ![8192, 768]⟩
abbrev S768x2048 : Shape := ⟨2, ![768, 2048]⟩
abbrev S_ : Shape := ⟨0, ![]⟩
abbrev S2048 : Shape := ⟨1, ![2048]⟩
abbrev S1x2048 : Shape := ⟨2, ![1, 2048]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .f32⟩
  | .hbm, ⟨2, _⟩ => ⟨S768x2048, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .i32⟩
  | .hbm, ⟨19, _⟩ => ⟨S_, .f32⟩
  | .hbm, ⟨20, _⟩ => ⟨S_, .i32⟩
  | .hbm, ⟨21, _⟩ => ⟨S8192, .f32⟩
  | .hbm, ⟨22, _⟩ => ⟨S8192, .i32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Cases.lean ====
/- The nine points of the grid fall into three cases: the first (the scratch is prepared, nothing is
   merged), the middle ones (merge, then compute), the last (merge only). Here: the three branch
   conditions in closed form, where each output is left alone, when it is written back, and the
   names of the buffers the body is given. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

/-- The condition under which the body prepares the scratch. -/
abbrev first (i : grid0.Coords) : Prop :=
  (Scalar.cmpi .ne (Scalar.extui (Scalar.cmpi .eq (BitVec.ofNat 32 (i 0).val) 0#32)) 0#32) = 1#1
/-- The condition under which the body merges the candidates of the point before. -/
abbrev merges (i : grid0.Coords) : Prop := k0_cond2 i = 1#1
/-- The condition under which the body computes a block of distances. -/
abbrev computes (i : grid0.Coords) : Prop := k0_cond3 i = 1#1

/-- The scratch is prepared at the first point only. -/
theorem first_iff : ∀ t : Fin cfg0.N, first (grid0.coords t) ↔ t.val = 0 :=
  (by decide +kernel : ∀ t : Fin grid0.N, first (grid0.coords t) ↔ t.val = 0)
/-- Candidates are merged at every point but the first. -/
theorem merges_iff : ∀ t : Fin cfg0.N, merges (grid0.coords t) ↔ 1 ≤ t.val :=
  (by decide +kernel : ∀ t : Fin grid0.N, merges (grid0.coords t) ↔ 1 ≤ t.val)
/-- Distances are computed at every point but the last. -/
theorem computes_iff : ∀ t : Fin cfg0.N, computes (grid0.coords t) ↔ t.val < 8 :=
  (by decide +kernel : ∀ t : Fin grid0.N, computes (grid0.coords t) ↔ t.val < 8)

/-- The distances' buffer is left alone at the last point only. -/
theorem idle_dist : ∀ t : Fin cfg0.N, cfg0.idle 2 (grid0.coords t) = decide (t.val = 8) :=
  (by decide +kernel : ∀ t : Fin grid0.N, cfg0.idle 2 (grid0.coords t) = decide (t.val = 8))
/-- The assignments' buffer is left alone at the first point only. -/
theorem idle_idx : ∀ t : Fin cfg0.N, cfg0.idle 3 (grid0.coords t) = decide (t.val = 0) :=
  (by decide +kernel : ∀ t : Fin grid0.N, cfg0.idle 3 (grid0.coords t) = decide (t.val = 0))
/-- The frames' buffer is never idle. -/
theorem idle_x : ∀ t : Fin cfg0.N, cfg0.idle 0 (grid0.coords t) = false := fun _ => rfl
/-- The centroids' buffer is never idle. -/
theorem idle_C : ∀ t : Fin cfg0.N, cfg0.idle 1 (grid0.coords t) = false := fun _ => rfl

/-- The distances are written back at every point but the one before the last. -/
theorem flush_dist : ∀ t : Fin cfg0.N, (cfg0.win 2).flush t = decide (t.val ≠ 7) :=
  (by decide +kernel : ∀ t : Fin grid0.N, win0_2.flush t = decide (t.val ≠ 7))
/-- The assignments are written back at every point but the first. -/
theorem flush_idx : ∀ t : Fin cfg0.N, (cfg0.win 3).flush t = decide (t.val ≠ 0) :=
  (by decide +kernel : ∀ t : Fin grid0.N, win0_3.flush t = decide (t.val ≠ 0))

/-- The buffers the body is given at a point, one per window. -/
abbrev bx (t : Fin cfg0.N) : Memref sig .tc .vmem S1024x768 .f32 := win0_0.stage (cfg0.slots t 0)
abbrev hbx (t : Fin cfg0.N) : (bx t).IsWhole := hstage0_0 ((cfg0.slots t 0).cast nbuf0_0)
abbrev bC (t : Fin cfg0.N) : Memref sig .tc .vmem S768x2048 .f32 := win0_1.stage (cfg0.slots t 1)
abbrev hbC (t : Fin cfg0.N) : (bC t).IsWhole := hstage0_1 ((cfg0.slots t 1).cast nbuf0_1)
abbrev bdist (t : Fin cfg0.N) : Memref sig .tc .vmem S1024x2048 .f32 := win0_2.stage (cfg0.slots t 2)
abbrev hbdist (t : Fin cfg0.N) : (bdist t).IsWhole := hstage0_2 ((cfg0.slots t 2).cast nbuf0_2)
abbrev bidx (t : Fin cfg0.N) : Memref sig .tc .vmem S1024 .i32 := win0_3.stage (cfg0.slots t 3)
abbrev hbidx (t : Fin cfg0.N) : (bidx t).IsWhole := hstage0_3 ((cfg0.slots t 3).cast nbuf0_3)
/-- The scratch: the centroids' squared norms, the scaled centroids, the candidates' values and columns. -/
abbrev scn : Memref sig .tc .vmem S1x2048 .f32 := Memref.whole cc0_scratch0
abbrev scb : Memref sig .tc .vmem S768x2048 .bf16 := Memref.whole cc0_scratch1
abbrev sval : Memref sig .tc .vmem S1024x128 .f32 := Memref.whole cc0_scratch2
abbrev scol : Memref sig .tc .vmem S1024x128 .i32 := Memref.whole cc0_scratch3

/-- The region's invariant with the scratch spelled as the four buffers, each at some contents. -/
theorem scratch_eq (c : Dev nD) :
    (Pipeline.ΦA spec0 c : sProp 𝕄)
      = iprop(iprop((∃ d, owns (c : Thread nD τ) scn fullShare d) ∗ (∃ d, owns (c : Thread nD τ) scb fullShare d)
          ∗ (∃ d, owns (c : Thread nD τ) sval fullShare d) ∗ (∃ d, owns (c : Thread nD τ) scol fullShare d))
        ∗ (∃ r, prngReg c r)) := by
  unfold Pipeline.ΦA; rw [scopedRest0_eq]; simp only [scn, scb, sval, scol, owns_whole]; try rfl

end Cert.KernelIdeal.Hand

end
-- ==== Proof.Block.lean ====
/- What one point of the grid computes, as functions of the contents it reads: the block of distances
   in two halves of 1024 columns, and for each row and each lane the smallest distance among the
   sixteen columns of that lane and the first column at which it stands. -/
module

public import proofs.«01_k».proof.Proof.Cases

@[expose] public section

noncomputable section

namespace Cert.KernelIdeal.Hand

open Idealize.ShloMosaic Idealize.ShloMosaic.Pipeline Cert.KernelIdeal.Gen

variable {F : FTy → Type} [FloatOps F]

/-- The first 1024 columns of the scaled centroids. -/
def wLo (W : Vec F S768x2048 .bf16) : Vec F S768x1024 .bf16 :=
  View.ld W (Rect.unit (s := S768x2048) ![0, 0] S768x1024.size inb_S768x2048_S768x1024_0_0)
/-- The last 1024 columns of the scaled centroids. -/
def wHi (W : Vec F S768x2048 .bf16) : Vec F S768x1024 .bf16 :=
  View.ld W (Rect.unit (s := S768x2048) ![0, 1024] S768x1024.size inb_S768x2048_S768x1024_0_1024)
/-- The first 1024 squared norms of the centroids. -/
def nLo (n : Vec F S1x2048 .f32) : Vec F S1x1024 .f32 :=
  View.ld n (Rect.unit (s := S1x2048) ![0, 0] S1x1024.size inb_S1x2048_S1x1024_0_0)
/-- The last 1024 squared norms of the centroids. -/
def nHi (n : Vec F S1x2048 .f32) : Vec F S1x1024 .f32 :=
  View.ld n (Rect.unit (s := S1x2048) ![0, 1024] S1x1024.size inb_S1x2048_S1x1024_0_1024)

/-- The two stores that fill a block of distances, the last one first. -/
def distPieces (x : Vec F S1024x768 .f32) (W : Vec F S768x2048 .bf16) (n : Vec F S1x2048 .f32) :
    List (View.Piece (Elt F) S1024x2048 .f32) :=
  [⟨Rect.unit ![0, 1024] S1024x1024.size inb_S1024x2048_S1024x1024_0_1024,
      k0_pay22 (k0_pay6 x) (k0_pay7 x) (wHi W) (nHi n)⟩,
    ⟨Rect.unit ![0, 0] S1024x1024.size inb_S1024x2048_S1024x1024_0_0, k0_pay8 x (wLo W) (nLo n)⟩]

/-- A block of distances, from a block of frames, the scaled centroids and the centroids' norms. -/
def distBlock (x : Vec F S1024x768 .f32) (W : Vec F S768x2048 .bf16) (n : Vec F S1x2048 .f32) : Vec F S1024x2048 .f32 :=
  View.canon (distPieces x W n)

/-- Each lane's smallest distance. -/
def valBlock (x : Vec F S1024x768 .f32) (W : Vec F S768x2048 .bf16) (n : Vec F S1x2048 .f32) : Vec F S1024x128 .f32 :=
  k0_pay4 (k0_pay17 x (wLo W) (nLo n)) (k0_pay31 (k0_pay6 x) (k0_pay7 x) (wHi W) (nHi n))

/-- Each lane's first column with that distance. -/
def colBlock (x : Vec F S1024x768 .f32) (W : Vec F S768x2048 .bf16) (n : Vec F S1x2048 .f32) : Vec F S1024x128 .i32 :=
  k0_pay5 (k0_pay17 x (wLo W) (nLo n))
    (k0_pay21 (k0_pay9 x (wLo W) (nLo n)) (k0_pay10 x (wLo W) (nLo n)) (k0_pay11 x (wLo W) (nLo n))
      (k0_pay17 x (wLo W) (nLo n)) (k0_pay18 x (wLo W) (nLo n)) (k0_pay19 x (wLo W) (nLo n)) k0_pay20)
    (k0_pay23 (k0_pay6 x) (k0_pay7 x) (wHi W) (nHi n)) (k0_pay24 (k0_pay6 x) (k0_pay7 x) (wHi W) (nHi n))
    (k0_pay25 (k0_pay6 x) (k0_pay7 x) (wHi W) (nHi n)) (k0_pay26 (k0_pay6 x) (k0_pay7 x) (wHi W) (nHi n))
    (k0_pay27 (k0_pay6 x) (k0_pay7 x) (wHi W) (nHi n)) (k0_pay28 (k0_pay6 x) (k0_pay7 x) (wHi W) (nHi n))
    (k0_pay31 (k0_pay6 x) (k0_pay7 x) (wHi W) (nHi n)) (k0_pay32 (k0_pay6 x) (k0_pay7 x) (wHi W) (nHi n))
    (k0_pay33 (k0_pay6 x) (k0_pay7 x) (wHi W) (nHi n)) 6#32

/-- The two halves cover the block of distances. -/
theorem distPieces_cover (x : Vec F S1024x768 .f32) (W : Vec F S768x2048 .bf16) (n : Vec F S1x2048 .f32)
    (y : S1024x2048.Idx) : ∃ p ∈ distPieces x W n, y ∈ p.1.set := by
  have h0 : (y 0).val < 1024 := (y 0).isLt
  have h1 : (y 1).val < 2048 := (y 1).isLt
  by_cases h : (y 1).val < 1024
  · refine ⟨_, List.mem_cons_of_mem _ (List.mem_singleton_self _),
      (Rect.mem_set_unit (inb := inb_S1024x2048_S1024x1024_0_0)).mpr fun a => ?_⟩
    fin_cases a
    · exact ⟨Nat.zero_le _, by simpa using h0⟩
    · exact ⟨Nat.zero_le _, by simpa using h⟩
  · refine ⟨_, List.mem_cons_self,
      (Rect.mem_set_unit (inb := inb_S1024x2048_S1024x1024_0_1024)).mpr fun a => ?_⟩
    fin_cases a
    · exact ⟨Nat.zero_le _, by simpa using h0⟩
    · exact ⟨by simpa using h, by simpa using h1⟩

/-- Two zero offsets, however spelt. -/
theorem off00 : (![0, 0] : Fin 2 → ℕ) = fun _ => 0 := by funext a; fin_cases a <;> rfl
/-- One zero offset, however spelt. -/
theorem off0 : (![0] : Fin 1 → ℕ) = fun _ => 0 := by funext a; fin_cases a; rfl

/-- A load of the whole block of frames reads it. -/
theorem ld_x (x : Vec F S1024x768 .f32) :
    View.ld x (Rect.unit (s := S1024x768) ![0, 0] ![1024, 768] inb_S1024x768_S1024x768_0_0) = x :=
  View.ld_unit_zero off00 _ x
/-- A load of all centroids reads them. -/
theorem ld_C (C : Vec F S768x2048 .f32) :
    View.ld C (Rect.unit (s := S768x2048) ![0, 0] ![768, 2048] inb_S768x2048_S768x2048_0_0) = C :=
  View.ld_unit_zero off00 _ C
/-- A load of all candidates' values reads them. -/
theorem ld_val (v : Vec F S1024x128 .f32) :
    View.ld v (Rect.unit (s := S1024x128) ![0, 0] ![1024, 128] inb_S1024x128_S1024x128_0_0) = v :=
  View.ld_unit_zero off00 _ v
/-- A load of all candidates' columns reads them. -/
theorem ld_col (k : Vec F S1024x128 .i32) :
    View.ld k (Rect.unit (s := S1024x128) ![0, 0] ![1024, 128] inb_S1024x128_S1024x128_0_0) = k :=
  View.ld_unit_zero off00 _ k

variable {κ : Kind} {sp : Space}

/-- What any load reads of a buffer one store has filled: the stored contents. -/
theorem cov_whole {S : Shape} {e : EltTy} (b : View sig κ sp S e) {off : Fin S.rank → ℕ} (h : off = fun _ => 0)
    (inb : ∀ a, off a + S.size a ≤ S.size a) (W : S.Idx → Elt F e) (r : Rect S) :
    b.readCov [(⟨Rect.unit off S.size inb, W⟩ : View.Piece (Elt F) S e)] r.toLoadRect = View.ld W r :=
  (View.readCov_eq_canon_ld b _ r fun y => ⟨_, List.mem_cons_self, View.mem_set_unit_zero h inb y⟩).trans
    (by rw [View.canon_unit_zero h])
/-- A buffer one store has filled reads as the stored contents. -/
theorem read_whole {S : Shape} {e : EltTy} (b : View sig κ sp S e) (f : b.ty.Contents (Elt F)) {off : Fin S.rank → ℕ}
    (h : off = fun _ => 0) (inb : ∀ a, off a + S.size a ≤ S.size a) (W : S.Idx → Elt F e) :
    b.read (Elt F) (b.writes (Elt F) f [(⟨Rect.unit off S.size inb, W⟩ : View.Piece (Elt F) S e)]) = W :=
  (View.read_writes_eq_canon b f _ fun y => ⟨_, List.mem_cons_self, View.mem_set_unit_zero h inb y⟩).trans
    (View.canon_unit_zero h inb W)
/-- The first half of the scaled centroids, read back after they were stored. -/
theorem cov_wLo (b : View sig κ sp S768x2048 .bf16) (W : Vec F S768x2048 .bf16) :
    b.readCov [(⟨Rect.unit (s := S768x2048) ![0, 0] ![768, 2048] inb_S768x2048_S768x2048_0_0, W⟩ : View.Piece (Elt F) S768x2048 .bf16)]
      (Rect.unit (s := S768x2048) ![0, 0] ![768, 1024] inb_S768x2048_S768x1024_0_0).toLoadRect = wLo W := by
  unfold wLo; exact cov_whole b off00 _ W _
/-- The second half of the scaled centroids, read back after they were stored. -/
theorem cov_wHi (b : View sig κ sp S768x2048 .bf16) (W : Vec F S768x2048 .bf16) :
    b.readCov [(⟨Rect.unit (s := S768x2048) ![0, 0] ![768, 2048] inb_S768x2048_S768x2048_0_0, W⟩ : View.Piece (Elt F) S768x2048 .bf16)]
      (Rect.unit (s := S768x2048) ![0, 1024] ![768, 1024] inb_S768x2048_S768x1024_0_1024).toLoadRect = wHi W := by
  unfold wHi; exact cov_whole b off00 _ W _
/-- The first half of the norms, read back after they were stored. -/
theorem cov_nLo (b : View sig κ sp S1x2048 .f32) (n : Vec F S1x2048 .f32) :
    b.readCov [(⟨Rect.unit (s := S1x2048) ![0, 0] ![1, 2048] inb_S1x2048_S1x2048_0_0, n⟩ : View.Piece (Elt F) S1x2048 .f32)]
      (Rect.unit (s := S1x2048) ![0, 0] ![1, 1024] inb_S1x2048_S1x1024_0_0).toLoadRect = nLo n := by
  unfold nLo; exact cov_whole b off00 _ n _
/-- The second half of the norms, read back after they were stored. -/
theorem cov_nHi (b : View sig κ sp S1x2048 .f32) (n : Vec F S1x2048 .f32) :
    b.readCov [(⟨Rect.unit (s := S1x2048) ![0, 0] ![1, 2048] inb_S1x2048_S1x2048_0_0, n⟩ : View.Piece (Elt F) S1x2048 .f32)]
      (Rect.unit (s := S1x2048) ![0, 1024] ![1, 1024] inb_S1x2048_S1x1024_0_1024).toLoadRect = nHi n := by
  unfold nHi; exact cov_whole b off00 _ n _

end Cert.KernelIdeal.Hand

end
-- ==== Proof.Runs.lean ====
/- The body run once on whole buffers, in each of its three cases: what it leaves in every buffer, as
   the functions of Block.lean. -/
module

public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1024x768 .f32) (harg1 : arg1.IsWhole)
  (arg2 : Memref sig .tc .vmem S768x2048 .f32) (harg2 : arg2.IsWhole)
  (arg3 : Memref sig .tc .vmem S1024x2048 .f32) (harg3 : arg3.IsWhole)
  (arg4 : Memref sig .tc .vmem S1024 .i32) (harg4 : arg4.IsWhole)
  (arg5 : Memref sig .tc .vmem S1x2048 .f32) (harg5 : arg5.IsWhole)
  (arg6 : Memref sig .tc .vmem S768x2048 .bf16) (harg6 : arg6.IsWhole)
  (arg7 : Memref sig .tc .vmem S1024x128 .f32) (harg7 : arg7.IsWhole)
  (arg8 : Memref sig .tc .vmem S1024x128 .i32) (harg8 : arg8.IsWhole)

set_option maxHeartbeats 1000000 in
/-- A middle point: it merges the candidates the point before left, then computes a block of distances and its candidates. -/
theorem run_mid (h0 : ¬first i) (h1 : merges i) (h2 : computes i)
    (x0 : Vec F S1024x768 .f32) (x1 : Vec F S768x2048 .f32) (n : Vec F S1x2048 .f32) (W : Vec F S768x2048 .bf16)
    (v : Vec F S1024x128 .f32) (k : Vec F S1024x128 .i32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare n ∗ owns (c : Thread nD τ) arg6 fullShare W ∗ owns (c : Thread nD τ) arg7 fullShare v ∗ owns (c : Thread nD τ) arg8 fullShare k
        ∗ (iprop(owns (c : Thread nD τ) arg1 fullShare x0 ∗ owns (c : Thread nD τ) arg2 fullShare x1 ∗ owns (c : Thread nD τ) arg3 fullShare (distBlock x0 W n) ∗ owns (c : Thread nD τ) arg4 fullShare (k0_pay3 v k) ∗ owns (c : Thread nD τ) arg5 fullShare n ∗ owns (c : Thread nD τ) arg6 fullShare W ∗ owns (c : Thread nD τ) arg7 fullShare (valBlock x0 W n) ∗ owns (c : Thread nD τ) arg8 fullShare (colBlock x0 W n)) -∗ K ⟨⟩))
      ⊢ wp frame (wpE (defs₀ (F := F)) Variants.none c none) E
        (cc0__kmeans_block i arg1 harg1 arg2 harg2 arg3 harg3 arg4 harg4 arg5 harg5 arg6 harg6 arg7 harg7 arg8 harg8) K := by
  simp only [cc0__kmeans_block_eq_skeleton]; unfold cc0__kmeans_block_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg5.eq_unread hf4
  obtain rfl := harg6.eq_unread hf5; obtain rfl := harg7.eq_unread hf6; obtain rfl := harg8.eq_unread hf7
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_eq_canon _ _ _ ?_).trans ?_
    · exact distPieces_cover _ _ _
    · sl_unfold_run_names
      simp only [View.readAt_eq_ld, Memref.IsWhole.read_unread, ld_x, ld_C, ld_val, ld_col,
    cov_wLo, cov_wHi, cov_nLo, cov_nHi]
      rfl
  isplitl [H3]
  · iexists _; isplitr; swap; · iexact H3
    ipureintro
    refine (read_whole _ _ off0 _ _).trans ?_
    sl_unfold_run_names
    simp only [View.readAt_eq_ld, Memref.IsWhole.read_unread, ld_x, ld_C, ld_val, ld_col,
    cov_wLo, cov_wHi, cov_nLo, cov_nHi]
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (read_whole _ _ off00 _ _).trans ?_
    sl_unfold_run_names
    simp only [View.readAt_eq_ld, Memref.IsWhole.read_unread, ld_x, ld_C, ld_val, ld_col,
    cov_wLo, cov_wHi, cov_nLo, cov_nHi]
    rfl
  iexists _; isplitr; swap; · iexact H7
  ipureintro
  refine (read_whole _ _ off00 _ _).trans ?_
  sl_unfold_run_names
  simp only [View.readAt_eq_ld, Memref.IsWhole.read_unread, ld_x, ld_C, ld_val, ld_col,
    cov_wLo, cov_wHi, cov_nLo, cov_nHi]
  rfl

set_option maxHeartbeats 1000000 in
/-- The first point: it prepares the scratch, then computes a block of distances and its candidates; nothing is merged. -/
theorem run_first (h0 : first i) (h1 : ¬merges i) (h2 : computes i)
    (x0 : Vec F S1024x768 .f32) (x1 : Vec F S768x2048 .f32) (y : Vec F S1024 .i32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare y ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare (distBlock x0 (k0_pay2 x1) (k0_pay1 x1)) ∗ owns (c : Thread nD τ) arg4 fullShare y ∗ owns (c : Thread nD τ) arg5 fullShare (k0_pay1 x1) ∗ owns (c : Thread nD τ) arg6 fullShare (k0_pay2 x1) ∗ owns (c : Thread nD τ) arg7 fullShare (valBlock x0 (k0_pay2 x1) (k0_pay1 x1)) ∗ owns (c : Thread nD τ) arg8 fullShare (colBlock x0 (k0_pay2 x1) (k0_pay1 x1))) -∗ K ⟨⟩))
      ⊢ wp frame (wpE (defs₀ (F := F)) Variants.none c none) E
        (cc0__kmeans_block i arg1 harg1 arg2 harg2 arg3 harg3 arg4 harg4 arg5 harg5 arg6 harg6 arg7 harg7 arg8 harg8) K := by
  simp only [cc0__kmeans_block_eq_skeleton]; unfold cc0__kmeans_block_skel
  simp only [k0_part1_eq_skeleton, k0_part2_eq_skeleton]
  unfold owns
  iintro ⟨⟨%f0, %hf0, H0⟩, ⟨%f1, %hf1, H1⟩, ⟨%d2, %f2, -, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg4.eq_unread hf3
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_eq_canon _ _ _ ?_).trans ?_
    · exact distPieces_cover _ _ _
    · sl_unfold_run_names
      simp only [View.readAt_eq_ld, Memref.IsWhole.read_unread, ld_x, ld_C, ld_val, ld_col,
    cov_wLo, cov_wHi, cov_nLo, cov_nHi]
      rfl
  isplitl [H3]
  · iexists _; isplitr; · ipureintro; exact harg4.read_unread _
    iexact H3
  isplitl [H4]
  · iexists _; isplitr; swap; · iexact H4
    ipureintro
    refine (read_whole _ _ off00 _ _).trans ?_
    sl_unfold_run_names
    simp only [View.readAt_eq_ld, Memref.IsWhole.read_unread, ld_x, ld_C, ld_val, ld_col,
    cov_wLo, cov_wHi, cov_nLo, cov_nHi]
  isplitl [H5]
  · iexists _; isplitr; swap; · iexact H5
    ipureintro
    refine (read_whole _ _ off00 _ _).trans ?_
    sl_unfold_run_names
    simp only [View.readAt_eq_ld, Memref.IsWhole.read_unread, ld_x, ld_C, ld_val, ld_col,
    cov_wLo, cov_wHi, cov_nLo, cov_nHi]
  isplitl [H6]
  · iexists _; isplitr; swap; · iexact H6
    ipureintro
    refine (read_whole _ _ off00 _ _).trans ?_
    sl_unfold_run_names
    simp only [View.readAt_eq_ld, Memref.IsWhole.read_unread, ld_x, ld_C, ld_val, ld_col,
    cov_wLo, cov_wHi, cov_nLo, cov_nHi]
    rfl
  iexists _; isplitr; swap; · iexact H7
  ipureintro
  refine (read_whole _ _ off00 _ _).trans ?_
  sl_unfold_run_names
  simp only [View.readAt_eq_ld, Memref.IsWhole.read_unread, ld_x, ld_C, ld_val, ld_col,
    cov_wLo, cov_wHi, cov_nLo, cov_nHi]
  rfl

set_option maxHeartbeats 1000000 in
/-- The last point: it merges the candidates the point before left, and stores nothing else. -/
theorem run_last (h0 : ¬first i) (h1 : merges i) (h2 : ¬computes i)
    (x0 : Vec F S1024x768 .f32) (x1 : Vec F S768x2048 .f32) (z : Vec F S1024x2048 .f32) (n : Vec F S1x2048 .f32)
    (W : Vec F S768x2048 .bf16) (v : Vec F S1024x128 .f32) (k : Vec F S1024x128 .i32) (E : Set ℕ) (K : PUnit → sProp 𝕄) :
    iprop(owns (c : Thread nD τ) arg1 fullShare x0 ∗ owns (c : Thread nD τ) arg2 fullShare x1 ∗ owns (c : Thread nD τ) arg3 fullShare z ∗ (∃ d, owns (c : Thread nD τ) arg4 fullShare d) ∗ owns (c : Thread nD τ) arg5 fullShare n ∗ owns (c : Thread nD τ) arg6 fullShare W ∗ owns (c : Thread nD τ) arg7 fullShare v ∗ owns (c : Thread nD τ) arg8 fullShare k
        ∗ (iprop(owns (c : Thread nD τ) arg1 fullShare x0 ∗ owns (c : Thread nD τ) arg2 fullShare x1 ∗ owns (c : Thread nD τ) arg3 fullShare z ∗ owns (c : Thread nD τ) arg4 fullShare (k0_pay3 v k) ∗ owns (c : Thread nD τ) arg5 fullShare n ∗ owns (c : Thread nD τ) arg6 fullShare W ∗ owns (c : Thread nD τ) arg7 fullShare v ∗ owns (c : Thread nD τ) arg8 fullShare k) -∗ K ⟨⟩))
      ⊢ wp frame (wpE (defs₀ (F := F)) Variants.none c none) E
        (cc0__kmeans_block i arg1 harg1 arg2 harg2 arg3 harg3 arg4 harg4 arg5 harg5 arg6 harg6 arg7 harg7 arg8 harg8) K := by
  simp only [cc0__kmeans_block_eq_skeleton]; unfold cc0__kmeans_block_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg5.eq_unread hf4
  obtain rfl := harg6.eq_unread hf5; obtain rfl := harg7.eq_unread hf6; obtain rfl := harg8.eq_unread hf7
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_whole _ _ off0 _ _).trans ?_
    sl_unfold_run_names
    simp only [View.readAt_eq_ld, Memref.IsWhole.read_unread, ld_x, ld_C, ld_val, ld_col,
    cov_wLo, cov_wHi, cov_nLo, cov_nHi]
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr; · ipureintro; exact harg8.read_unread _
  iexact H7

end Cert.KernelIdeal.Hand

end
-- ==== Proof.Data.lean ====
/- The contents of every buffer, point by point: the block of frames, the centroids, what the scratch
   keeps, and what each output's buffer holds after the body. -/
module

public import proofs.«01_k».proof.Proof.Runs
public import Idealize.ShloMosaic.Lib.Pointwise.Index

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

/-- Row `r` of block `b`, as a row of the array. -/
def rowOf (b : ℕ) (r : Fin 1024) : Fin 8192 := ⟨1024 * (min b 7) + r.val, by have := r.isLt; omega⟩

/-- The block of 1024 frames the body is given at point `n`: the last block twice. -/
def frames (X : Vec F S8192x768 .f32) (n : ℕ) : Vec F S1024x768 .f32 :=
  fun j => X (ix2 (rowOf n (j 0)) (j 1))

/-- The squared norms of the centroids, as the scratch keeps them. -/
abbrev norms (C : Vec F S768x2048 .f32) : Vec F S1x2048 .f32 := k0_pay1 C
/-- The centroids times minus two, as the scratch keeps them. -/
abbrev scaled (C : Vec F S768x2048 .f32) : Vec F S768x2048 .bf16 := k0_pay2 C
/-- The distances of block `n`. -/
def distAt (X : Vec F S8192x768 .f32) (C : Vec F S768x2048 .f32) (n : ℕ) : Vec F S1024x2048 .f32 :=
  distBlock (frames X n) (scaled C) (norms C)
/-- The lanes' smallest distances in block `n`. -/
def valAt (X : Vec F S8192x768 .f32) (C : Vec F S768x2048 .f32) (n : ℕ) : Vec F S1024x128 .f32 :=
  valBlock (frames X n) (scaled C) (norms C)
/-- The columns of the lanes' smallest distances in block `n`. -/
def colAt (X : Vec F S8192x768 .f32) (C : Vec F S768x2048 .f32) (n : ℕ) : Vec F S1024x128 .i32 :=
  colBlock (frames X n) (scaled C) (norms C)
/-- The assignments of block `n`. -/
def idxAt (X : Vec F S8192x768 .f32) (C : Vec F S768x2048 .f32) (n : ℕ) : Vec F S1024 .i32 :=
  k0_pay3 (valAt X C n) (colAt X C n)

/-- Point 8 is given the block of point 7. -/
theorem frames_last (X : Vec F S8192x768 .f32) : frames X 8 = frames X 7 := rfl

variable (m : (ℓ : Loc nD τ sig) → Buf (Elt F) ℓ)

/-- The frames as launched. -/
abbrev argX (c : Dev nD) : Vec F S8192x768 .f32 := m ((c : Thread nD τ).loc main_arg0)
/-- The centroids as launched. -/
abbrev argC (c : Dev nD) : Vec F S768x2048 .f32 := m ((c : Thread nD τ).loc main_arg1)

/-- Where each window's block starts. -/
theorem starts : ∀ t : Fin cfg0.N,
    (win0_0.index t 0 * 1024 = 1024 * min t.val 7 ∧ win0_0.index t 1 * 768 = 0)
    ∧ (win0_1.index t 0 * 768 = 0 ∧ win0_1.index t 1 * 2048 = 0)
    ∧ (win0_2.index t 0 * 1024 = 1024 * min t.val 7 ∧ win0_2.index t 1 * 2048 = 0)
    ∧ win0_3.index t 0 * 1024 = 1024 * (t.val - 1) :=
  (by decide +kernel : ∀ t : Fin grid0.N,
    (win0_0.index t 0 * 1024 = 1024 * min t.val 7 ∧ win0_0.index t 1 * 768 = 0)
    ∧ (win0_1.index t 0 * 768 = 0 ∧ win0_1.index t 1 * 2048 = 0)
    ∧ (win0_2.index t 0 * 1024 = 1024 * min t.val 7 ∧ win0_2.index t 1 * 2048 = 0)
    ∧ win0_3.index t 0 * 1024 = 1024 * (t.val - 1))

/-- The block of frames at a point. -/
theorem iblk_x (c : Dev nD) (t : Fin cfg0.N) : iblk m c 0 t = frames (argX m c) t.val := by
  funext j
  show V m c main_arg0 (((cfg0.win 0).blk t).view.emb j) = argX m c _
  refine congrArg (argX m c) ?_
  obtain ⟨⟨e0, e1⟩, _⟩ := starts t
  funext a; apply Fin.ext
  match a with
  | ⟨0, _⟩ => show win0_0.index t (0 : Fin 2) * 1024 + 1 * (j 0).val = 1024 * min t.val 7 + (j 0).val; omega
  | ⟨1, _⟩ => show win0_0.index t (1 : Fin 2) * 768 + 1 * (j 1).val = (j 1).val; omega

/-- The block of centroids at a point is all of them. -/
theorem iblk_C (c : Dev nD) (t : Fin cfg0.N) : iblk m c 1 t = argC m c := by
  funext j
  show V m c main_arg1 (((cfg0.win 1).blk t).view.emb j) = argC m c _
  refine congrArg (argC m c) ?_
  obtain ⟨_, ⟨e0, e1⟩, _⟩ := starts t
  funext a; apply Fin.ext
  match a with
  | ⟨0, _⟩ => show win0_1.index t (0 : Fin 2) * 768 + 1 * (j 0).val = (j 0).val; omega
  | ⟨1, _⟩ => show win0_1.index t (1 : Fin 2) * 2048 + 1 * (j 1).val = (j 1).val; omega

/-- The invariant before position `n`: the scratch at anything before the first point; afterwards the
    norms, the scaled centroids, and the candidates of the block computed last. -/
def inv (c : Dev nD) : ℕ → sProp 𝕄
  | 0 => Pipeline.ΦA spec0 c
  | n + 1 => iprop(iprop(owns (c : Thread nD τ) scn fullShare (norms (argC m c)) ∗ owns (c : Thread nD τ) scb fullShare (scaled (argC m c))
      ∗ owns (c : Thread nD τ) sval fullShare (valAt (argX m c) (argC m c) n)
      ∗ owns (c : Thread nD τ) scol fullShare (colAt (argX m c) (argC m c) n)) ∗ (∃ r, prngReg c r))

/-- The invariant after the first point, with the position named by its predecessor. -/
theorem inv_pos (c : Dev nD) (n : ℕ) (h : n ≠ 0) : inv m c n = inv m c ((n - 1) + 1) := by
  rw [Nat.sub_add_cancel (Nat.pos_of_ne_zero h)]

/-- The invariant after point `n`. -/
theorem inv_succ (c : Dev nD) (n : ℕ) :
    inv m c (n + 1) = iprop(iprop(owns (c : Thread nD τ) scn fullShare (norms (argC m c)) ∗ owns (c : Thread nD τ) scb fullShare (scaled (argC m c))
      ∗ owns (c : Thread nD τ) sval fullShare (valAt (argX m c) (argC m c) n)
      ∗ owns (c : Thread nD τ) scol fullShare (colAt (argX m c) (argC m c) n)) ∗ (∃ r, prngReg c r)) := rfl

/-- The contents of the arrays at the start and of the buffers after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => distAt (argX m c) (argC m c) t.val
    | ⟨3, _⟩ => idxAt (argX m c) (argC m c) (t.val - 1)
  Φ t := inv m c t.val
  q _ := fullShare
  owed _ := 0

/-- The arrays start as launched. -/
theorem dats_A (c : Dev nD) (w : Fin cfg0.W) : (dats m 0 c).A w = V m c (Pipeline.arrRef spec0 w) := by
  dsimp only [dats]
/-- The invariant at the start of a point. -/
theorem dats_before (c : Dev nD) (t : Fin cfg0.N) : (dats m 0 c).Φ t.castSucc = inv m c t.val := by
  dsimp only [dats]; exact Pipeline.Dat.Φ_castSucc (fun n _ => inv m c n) t
/-- The invariant at the end of a point. -/
theorem dats_next (c : Dev nD) (t : Fin cfg0.N) : (dats m 0 c).Φ t.succ = inv m c (t.val + 1) := rfl
/-- What the body leaves in each buffer. -/
theorem after_x (c : Dev nD) (t : Fin cfg0.N) : (dats m 0 c).after 0 t = iblk m c 0 t := by dsimp only [dats]
theorem after_C (c : Dev nD) (t : Fin cfg0.N) : (dats m 0 c).after 1 t = iblk m c 1 t := by dsimp only [dats]
theorem after_dist (c : Dev nD) (t : Fin cfg0.N) :
    (dats m 0 c).after 2 t = distAt (argX m c) (argC m c) t.val := by dsimp only [dats]
theorem after_idx (c : Dev nD) (t : Fin cfg0.N) :
    (dats m 0 c).after 3 t = idxAt (argX m c) (argC m c) (t.val - 1) := by dsimp only [dats]

/-- What the body finds in the two inputs' buffers. -/
theorem before_x (c : Dev nD) (t : Fin cfg0.N) (d) : (dats m 0 c).before 0 t d = frames (argX m c) t.val :=
  (before0_0_of m (dats m 0 c) (dats_A m c 0) (after_x m c) t d).trans (iblk_x m c t)
theorem before_C (c : Dev nD) (t : Fin cfg0.N) (d) : (dats m 0 c).before 1 t d = argC m c :=
  (before0_1_of m (dats m 0 c) (dats_A m c 1) (after_C m c) t d).trans (iblk_C m c t)

/-- A live point leaves in an uncut window's buffer what the body leaves there. -/
theorem left_live {cfg : Cfg sig Λ₀} {c : Dev nD} (dat : Dat τ (Elt F) Unit ℕ (UR sig nD τ) ℕ cfg c) (w : Fin cfg.W) (t : Fin cfg.N)
    (hi : cfg.idle w (cfg.grid.coords t) = false) (hc : ∀ a, (cfg.win w).clip (cfg.grid.coords t) a = none) (d) :
    dat.left w t d = dat.after w t := by
  unfold Dat.left
  rw [hi]
  dsimp only
  unfold Dat.kept
  rw [Pipeline.fill_of_clip_none w _ hc d (dat.after w t), Window.fill_cut]

/-- What the last point finds in the distances' buffer: the distances of the block before. -/
theorem before_dist_last (c : Dev nD) (t : Fin cfg0.N) (ht : t.val = 8) (d) :
    (dats m 0 c).before 2 t d = distAt (argX m c) (argC m c) t.val := by
  have h7 : (cfg0.win 2).flush ⟨t.val - 1, Nat.lt_of_le_of_lt (Nat.sub_le _ _) t.isLt⟩ = false := by
    rw [flush_dist]; simp [ht]
  have hi : cfg0.idle 2 (grid0.coords ⟨t.val - 1, Nat.lt_of_le_of_lt (Nat.sub_le _ _) t.isLt⟩) = false := by
    rw [idle_dist]; simp [ht]
  rw [Dat.before_of_pos _ 2 t (by omega) ((cfg0.win 2).fetch_out rfl t), h7, if_neg Bool.false_ne_true]
  rw [left_live _ 2 _ hi fun _ => rfl]
  rw [after_dist]
  have e : frames (argX m c) (t.val - 1) = frames (argX m c) t.val := by simp only [ht]; rfl
  unfold distAt
  exact congrArg (fun x => distBlock x _ _) e

end Cert.KernelIdeal.Hand

end
-- ==== Proof.Sound.lean ====
/- The body at every point: from the contents the point starts with to the contents it leaves. -/
module

public import proofs.«01_k».proof.Proof.Data

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body starts from at a point. -/
def startsFrom (c : Dev nD) (t : Fin cfg0.N) : sProp 𝕄 :=
  iprop((dats m 0 c).Φ t.castSucc ∗ (dats m 0 c).owesAt () t.castSucc
    ∗ (∃ d, owns (c : Thread nD τ) (bx t) fullShare ((dats m 0 c).before 0 t d))
    ∗ (∃ d, owns (c : Thread nD τ) (bC t) fullShare ((dats m 0 c).before 1 t d))
    ∗ (∃ d, owns (c : Thread nD τ) (bdist t) fullShare ((dats m 0 c).before 2 t d))
    ∗ (∃ d, owns (c : Thread nD τ) (bidx t) fullShare ((dats m 0 c).before 3 t d)))

/-- What the body ends with at a point. -/
def endsWith (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The frames' buffer ends as it was. -/
theorem leaves_x (c : Dev nD) (t : Fin cfg0.N) :
    (dats m 0 c).leavesExact 0 t = owns (c : Thread nD τ) (bx t) fullShare (frames (argX m c) t.val) := by
  unfold Dat.leavesExact; rw [idle_x t, after_x, iblk_x]
/-- The centroids' buffer ends as it was. -/
theorem leaves_C (c : Dev nD) (t : Fin cfg0.N) :
    (dats m 0 c).leavesExact 1 t = owns (c : Thread nD τ) (bC t) fullShare (argC m c) := by
  unfold Dat.leavesExact; rw [idle_C t, after_C, iblk_C]
/-- The distances' buffer ends with the distances of the point's block. -/
theorem leaves_dist (c : Dev nD) (t : Fin cfg0.N) :
    (dats m 0 c).leavesExact 2 t
      = owns (c : Thread nD τ) (bdist t) fullShare (distAt (argX m c) (argC m c) t.val) := by
  unfold Dat.leavesExact
  rw [idle_dist t, after_dist]
  by_cases h : t.val = 8
  · rw [decide_eq_true h]; dsimp only; rw [flush_dist t, decide_eq_true (by omega : t.val ≠ 7)]
  · rw [decide_eq_false h]
/-- The assignments' buffer ends with the assignments of the block before, after the first point. -/
theorem leaves_idx (c : Dev nD) (t : Fin cfg0.N) (ht : t.val ≠ 0) :
    (dats m 0 c).leavesExact 3 t
      = owns (c : Thread nD τ) (bidx t) fullShare (idxAt (argX m c) (argC m c) (t.val - 1)) := by
  unfold Dat.leavesExact
  rw [idle_idx t, after_idx, decide_eq_false ht]
/-- The assignments' buffer ends as it was at the first point. -/
theorem leaves_idx_first (c : Dev nD) (t : Fin cfg0.N) (ht : t.val = 0) :
    (dats m 0 c).leavesExact 3 t
      = iprop(∃ d, owns (c : Thread nD τ) (bidx t) fullShare ((dats m 0 c).before 3 t d)) := by
  unfold Dat.leavesExact
  rw [idle_idx t, decide_eq_true ht]; dsimp only; rw [flush_idx t, decide_eq_false (by omega : ¬ t.val ≠ 0)]

/-- The body at the first point. -/
theorem sound_first (c : Dev nD) (t : Fin cfg0.N) (ht : t.val = 0) :
    startsFrom m c t ⊢ wp frame (wpE (defs₀ (F := F)) Variants.none c none) Set.univ (bodyAt0 t) (fun _ => endsWith m c t) := by
  unfold startsFrom endsWith bodyAt0
  simp only [before_x, before_C]
  rw [show (dats m 0 c).owesAt () t.succ = (dats m 0 c).owesAt () t.castSucc from rfl,
    leaves_x, leaves_C, leaves_dist, leaves_idx_first m c t ht, dats_next, dats_before,
    show inv m c t.val = Pipeline.ΦA spec0 c from by rw [ht]; rfl, inv_succ, scratch_eq]
  iintro ⟨⟨⟨HS0, HS1, HS2, HS3⟩, Hg⟩, Ho, ⟨%d0, H0⟩, ⟨%d1, H1⟩, ⟨%d2, H2⟩, ⟨%d3, H3⟩⟩
  iapply (run_first c (grid0.coords t) _ _ _ _ _ _ _ _ _ _ _ _ _ _ _ _ ((first_iff t).mpr ht)
    (fun h => by have := (merges_iff t).mp h; omega) ((computes_iff t).mpr (by omega)) (frames (argX m c) t.val) (argC m c) _ Set.univ _)
  isplitl [H0]; · iexact H0
  isplitl [H1]; · iexact H1
  isplitl [H2]; · iexists _; iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexists _; iexact H3

/-- The body at a point in the middle. -/
theorem sound_mid (c : Dev nD) (t : Fin cfg0.N) (h0 : t.val ≠ 0) (h8 : t.val < 8) :
    startsFrom m c t ⊢ wp frame (wpE (defs₀ (F := F)) Variants.none c none) Set.univ (bodyAt0 t) (fun _ => endsWith m c t) := by
  unfold startsFrom endsWith bodyAt0
  simp only [before_x, before_C]
  rw [show (dats m 0 c).owesAt () t.succ = (dats m 0 c).owesAt () t.castSucc from rfl,
    leaves_x, leaves_C, leaves_dist, leaves_idx m c t h0, dats_next, dats_before, inv_pos m c t.val h0, inv_succ, inv_succ]
  iintro ⟨⟨⟨HS0, HS1, HS2, HS3⟩, Hg⟩, Ho, ⟨%d0, H0⟩, ⟨%d1, H1⟩, ⟨%d2, H2⟩, ⟨%d3, H3⟩⟩
  iapply (run_mid c (grid0.coords t) _ _ _ _ _ _ _ _ _ _ _ _ _ _ _ _ (fun h => h0 ((first_iff t).mp h))
    ((merges_iff t).mpr (by omega)) ((computes_iff t).mpr h8) (frames (argX m c) t.val) (argC m c) _ _ _ _ Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

/-- The candidates kept at the last point are those of its own block. -/
theorem last_candidates (c : Dev nD) (t : Fin cfg0.N) (ht : t.val = 8) :
    valAt (argX m c) (argC m c) t.val = valAt (argX m c) (argC m c) (t.val - 1)
      ∧ colAt (argX m c) (argC m c) t.val = colAt (argX m c) (argC m c) (t.val - 1) := by
  have e : frames (argX m c) t.val = frames (argX m c) (t.val - 1) := by simp only [ht]; rfl
  exact ⟨congrArg (fun x => valBlock x _ _) e, congrArg (fun x => colBlock x _ _) e⟩

/-- The body at the last point. -/
theorem sound_last (c : Dev nD) (t : Fin cfg0.N) (ht : t.val = 8) :
    startsFrom m c t ⊢ wp frame (wpE (defs₀ (F := F)) Variants.none c none) Set.univ (bodyAt0 t) (fun _ => endsWith m c t) := by
  have h0 : t.val ≠ 0 := by omega
  unfold startsFrom endsWith bodyAt0
  simp only [before_x, before_C, before_dist_last m c t ht]
  rw [show (dats m 0 c).owesAt () t.succ = (dats m 0 c).owesAt () t.castSucc from rfl,
    leaves_x, leaves_C, leaves_dist, leaves_idx m c t h0, dats_next, dats_before, inv_pos m c t.val h0, inv_succ, inv_succ]
  rw [(last_candidates m c t ht).1, (last_candidates m c t ht).2]
  iintro ⟨⟨⟨HS0, HS1, HS2, HS3⟩, Hg⟩, Ho, ⟨%d0, H0⟩, ⟨%d1, H1⟩, ⟨%d2, H2⟩, ⟨%d3, H3⟩⟩
  iapply (run_last c (grid0.coords t) _ _ _ _ _ _ _ _ _ _ _ _ _ _ _ _ (fun h => h0 ((first_iff t).mp h))
    ((merges_iff t).mpr (by omega)) (fun h => by have := (computes_iff t).mp h; omega)
    (frames (argX m c) t.val) (argC m c) _ _ _ _ _ Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

/-- The body at any point. -/
theorem sound (c : Dev nD) (t : Fin cfg0.N) :
    startsFrom m c t ⊢ wp frame (wpE (defs₀ (F := F)) Variants.none c none) Set.univ (bodyAt0 t) (fun _ => endsWith m c t) := by
  have hN : t.val < 9 := lt_of_lt_of_eq t.isLt (show cfg0.N = 9 from N_0)
  by_cases h0 : t.val = 0
  · exact sound_first m c t h0
  · by_cases h8 : t.val < 8
    · exact sound_mid m c t h0 h8
    · exact sound_last m c t (by omega)

/-- The body of the pipeline at a point's buffers is the kernel's body. -/
theorem body_row (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-- The region starts in the invariant. -/
theorem enters (c : Dev nD) : Pipeline.ΦA spec0 c ⊢ (dats m 0 c).Φ 0 := by
  rw [show (dats m 0 c).Φ 0 = Pipeline.ΦA spec0 c from rfl]
  try exact Idealize.SL.BI.Entails.refl _

/-- The region gives the scratch back. -/
theorem exits (c : Dev nD) : (dats m 0 c).Φ (Fin.last cfg0.N) ⊢ Pipeline.ΦA spec0 c := by
  rw [show (dats m 0 c).Φ (Fin.last cfg0.N) = inv m c (Fin.last cfg0.N).val from rfl,
    inv_pos m c _ (by rw [Fin.val_last]; have : cfg0.N = 9 := N_0; omega), inv_succ, scratch_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

variable (ρ : Dev nD → PrngReg)

set_option backward.isDefEq.respectTransparency.types false in
/-- The run: it ends, with every array at what the points write back, and no semaphore raised. -/
theorem run_arrays : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enters m) (hout := exits m)

end Cert.KernelIdeal.Hand

end
-- ==== Proof.Arrays.lean ====
/- The two arrays the kernel leaves, put together from the blocks its points write back. -/
module

public import proofs.«01_k».proof.Proof.Sound

@[expose] public section

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen

variable {F : FTy → Type} [FloatOps F]

/-- The block a row of the array lies in. -/
def blockNo (r : Fin 8192) : ℕ := r.val / 1024
/-- The row within its block. -/
def inBlock (r : Fin 8192) : Fin 1024 := ⟨r.val % 1024, Nat.mod_lt _ (by decide)⟩

/-- A row is the row of its block it lies at. -/
theorem rowOf_blockNo (r : Fin 8192) : rowOf (blockNo r) (inBlock r) = r := by
  have := r.isLt
  apply Fin.ext
  show 1024 * min (r.val / 1024) 7 + r.val % 1024 = r.val
  omega

/-- All the distances the kernel computes. -/
def distAll (X : Vec F S8192x768 .f32) (C : Vec F S768x2048 .f32) : Vec F S8192x2048 .f32 :=
  fun i => distAt X C (blockNo (i 0)) (ix2 (inBlock (i 0)) (i 1))
/-- All the assignments the kernel computes. -/
def idxAll (X : Vec F S8192x768 .f32) (C : Vec F S768x2048 .f32) : Vec F S8192 .i32 :=
  fun i => idxAt X C (blockNo (i 0)) (ix1 (inBlock (i 0)))

/-- Blocks past the last are the last. -/
theorem distAt_min (X : Vec F S8192x768 .f32) (C : Vec F S768x2048 .f32) (n : ℕ) :
    distAt X C n = distAt X C (min n 7) := by
  have e : frames X n = frames X (min n 7) := by
    funext j
    refine congrArg (fun r => X (ix2 r (j 1))) (Fin.ext ?_)
    show 1024 * min n 7 + (j 0).val = 1024 * min (min n 7) 7 + (j 0).val
    omega
  exact congrArg (fun x => distBlock x _ _) e

variable (m : (ℓ : Loc nD τ sig) → Buf (Elt F) ℓ)

/-- The rows of the distances a point writes. -/
theorem mem_dist (t : Fin cfg0.N) (i : S8192x2048.Idx) :
    i ∈ ((cfg0.win 2).blk t).view.set ↔ 1024 * min t.val 7 ≤ (i 0).val ∧ (i 0).val < 1024 * min t.val 7 + 1024 := by
  show i ∈ ((View.whole main_v0_0).slice (win0_2.rect t)).set ↔ _
  rw [View.set_slice_whole, Rect.mem_set_unit]
  obtain ⟨_, _, ⟨e0, e1⟩, _⟩ := starts t
  have h1 : (i 1).val < 2048 := (i 1).isLt
  refine ⟨fun h => ?_, fun h a => ?_⟩
  · have h0 : win0_2.index t (0 : Fin 2) * 1024 ≤ (i 0).val ∧ (i 0).val < win0_2.index t (0 : Fin 2) * 1024 + 1024 := h 0
    rw [e0] at h0; exact h0
  · match a with
    | ⟨0, _⟩ =>
      show win0_2.index t (0 : Fin 2) * 1024 ≤ (i 0).val ∧ (i 0).val < win0_2.index t (0 : Fin 2) * 1024 + 1024
      rw [e0]; exact h
    | ⟨1, _⟩ =>
      show win0_2.index t (1 : Fin 2) * 2048 ≤ (i 1).val ∧ (i 1).val < win0_2.index t (1 : Fin 2) * 2048 + 2048
      rw [e1]; omega

/-- The rows of the assignments a point writes. -/
theorem mem_idx (t : Fin cfg0.N) (i : S8192.Idx) :
    i ∈ ((cfg0.win 3).blk t).view.set ↔ 1024 * (t.val - 1) ≤ (i 0).val ∧ (i 0).val < 1024 * (t.val - 1) + 1024 := by
  show i ∈ ((View.whole main_v0_1).slice (win0_3.rect t)).set ↔ _
  rw [View.set_slice_whole, Rect.mem_set_unit]
  obtain ⟨_, _, _, e0⟩ := starts t
  refine ⟨fun h => ?_, fun h a => ?_⟩
  · have h0 : win0_3.index t (0 : Fin 1) * 1024 ≤ (i 0).val ∧ (i 0).val < win0_3.index t (0 : Fin 1) * 1024 + 1024 := h 0
    rw [e0] at h0; exact h0
  · match a with
    | ⟨0, _⟩ =>
      show win0_3.index t (0 : Fin 1) * 1024 ≤ (i 0).val ∧ (i 0).val < win0_3.index t (0 : Fin 1) * 1024 + 1024
      rw [e0]; exact h

/-- Every row of the distances is written. -/
theorem cover_dist (i : S8192x2048.Idx) : ∃ t : Fin cfg0.N, (cfg0.win 2).flush t = true ∧ i ∈ ((cfg0.win 2).blk t).view.set := by
  have h0 : (i 0).val < 8192 := (i 0).isLt
  by_cases h : (i 0).val < 7168
  · have hb : (i 0).val / 1024 < 7 := by omega
    refine ⟨⟨(i 0).val / 1024, by show _ < grid0.N; rw [N_0]; omega⟩, ?_, ?_⟩
    · rw [flush_dist]; exact decide_eq_true (by show (i 0).val / 1024 ≠ 7; omega)
    · rw [mem_dist]; dsimp only; omega
  · refine ⟨⟨8, by show _ < grid0.N; rw [N_0]; omega⟩, ?_, ?_⟩
    · rw [flush_dist]; rfl
    · rw [mem_dist]; dsimp only; omega

/-- Every assignment is written. -/
theorem cover_idx (i : S8192.Idx) : ∃ t : Fin cfg0.N, (cfg0.win 3).flush t = true ∧ i ∈ ((cfg0.win 3).blk t).view.set := by
  have h0 : (i 0).val < 8192 := (i 0).isLt
  refine ⟨⟨(i 0).val / 1024 + 1, by show _ < grid0.N; rw [N_0]; omega⟩, ?_, ?_⟩
  · rw [flush_idx]; exact decide_eq_true (Nat.succ_ne_zero _)
  · rw [mem_idx]; dsimp only; omega

/-- A row of block `n`, with its block and its place in it. -/
theorem blockNo_row (n : ℕ) (hn : n < 8) (r : Fin 1024) (R : Fin 8192) (hR : R.val = 1024 * n + r.val) :
    blockNo R = n ∧ inBlock R = r := by
  have := r.isLt
  refine ⟨?_, Fin.ext ?_⟩
  · show R.val / 1024 = n; omega
  · show R.val % 1024 = r.val; omega

/-- A block that agrees with its rows of an array of distances is those rows. -/
theorem block_dist (t : Fin cfg0.N) (B : Vec F S1024x2048 .f32) (G : Vec F S8192x2048 .f32)
    (h : ∀ (r : Fin 1024) (k : Fin 2048) (R : Fin 8192), R.val = 1024 * min t.val 7 + r.val → B (ix2 r k) = G (ix2 R k)) :
    (cfg0.win 2).cut (grid0.coords t) B = ((cfg0.win 2).blk t).view.read (Elt F) G := by
  obtain ⟨_, _, ⟨e0, e1⟩, _⟩ := starts t
  funext j
  show B j = G (((cfg0.win 2).blk t).view.emb j)
  have h0 : ((((cfg0.win 2).blk t).view.emb j) 0).val = 1024 * min t.val 7 + (j 0).val := by
    show win0_2.index t (0 : Fin 2) * 1024 + 1 * (j 0).val = _; omega
  have h1 : (((cfg0.win 2).blk t).view.emb j) 1 = j 1 :=
    Fin.ext (by show win0_2.index t (1 : Fin 2) * 2048 + 1 * (j 1).val = (j 1).val; omega)
  have key := h (j 0) (j 1) ((((cfg0.win 2).blk t).view.emb j) 0) h0
  refine (congrArg B (eq_ix2 (n0 := 1024) (n1 := 2048) j)).trans (key.trans (congrArg G ?_))
  rw [← h1]
  exact (eq_ix2 (n0 := 8192) (n1 := 2048) _).symm

/-- A block that agrees with its rows of an array of assignments is those rows. -/
theorem block_idx (t : Fin cfg0.N) (B : Vec F S1024 .i32) (G : Vec F S8192 .i32)
    (h : ∀ (r : Fin 1024) (R : Fin 8192), R.val = 1024 * (t.val - 1) + r.val → B (ix1 r) = G (ix1 R)) :
    (cfg0.win 3).cut (grid0.coords t) B = ((cfg0.win 3).blk t).view.read (Elt F) G := by
  obtain ⟨_, _, _, e0⟩ := starts t
  funext j
  show B j = G (((cfg0.win 3).blk t).view.emb j)
  have h0 : ((((cfg0.win 3).blk t).view.emb j) 0).val = 1024 * (t.val - 1) + (j 0).val := by
    show win0_3.index t (0 : Fin 1) * 1024 + 1 * (j 0).val = _; omega
  have key := h (j 0) ((((cfg0.win 3).blk t).view.emb j) 0) h0
  exact (congrArg B (eq_ix1 (n0 := 1024) j)).trans (key.trans (congrArg G (eq_ix1 (n0 := 8192) _).symm))

/-- A block of distances is its rows of the whole array. -/
theorem flushed_dist (c : Dev nD) (t : Fin cfg0.N) :
    (dats m 0 c).flushed 2 t = ((cfg0.win 2).blk t).view.read (Elt F) (distAll (argX m c) (argC m c)) := by
  show (cfg0.win 2).cut (grid0.coords t) ((dats m 0 c).after 2 t) = _
  rw [after_dist, distAt_min]
  refine block_dist t _ _ fun r k R hR => ?_
  obtain ⟨hb, hr⟩ := blockNo_row (min t.val 7) (by omega) r R hR
  unfold distAll
  rw [ix2_0, ix2_1, hb, hr]

/-- A block of assignments is its rows of the whole array. -/
theorem flushed_idx (c : Dev nD) (t : Fin cfg0.N) :
    (dats m 0 c).flushed 3 t = ((cfg0.win 3).blk t).view.read (Elt F) (idxAll (argX m c) (argC m c)) := by
  show (cfg0.win 3).cut (grid0.coords t) ((dats m 0 c).after 3 t) = _
  have hN : t.val < 9 := lt_of_lt_of_eq t.isLt (show cfg0.N = 9 from N_0)
  rw [after_idx]
  refine block_idx t _ _ fun r R hR => ?_
  obtain ⟨hb, hr⟩ := blockNo_row (t.val - 1) (by omega) r R hR
  unfold idxAll
  rw [ix1_0, hb, hr]

/-- The distances' array at the end. -/
theorem array_dist (c : Dev nD) : (dats m 0 c).arrAt 2 cfg0.N = distAll (argX m c) (argC m c) :=
  (dats m 0 c).arrAt_eq_of_cover 2 (distAll (argX m c) (argC m c)) (fun t _ => flushed_dist m c t) cover_dist
/-- The assignments' array at the end. -/
theorem array_idx (c : Dev nD) : (dats m 0 c).arrAt 3 cfg0.N = idxAll (argX m c) (argC m c) :=
  (dats m 0 c).arrAt_eq_of_cover 3 (idxAll (argX m c) (argC m c)) (fun t _ => flushed_idx m c t) cover_idx

variable (ρ : Dev nD → PrngReg)

/-- The kernel's run: its two results, its arguments unchanged, and no semaphore raised. -/
theorem run : θ_run defs (onTc (τ := τ) (main (F := F))) ⟨m, fun _ => 0, ρ⟩ fun r =>
    (∀ c : Dev nD, r.2.mem ((c : Thread nD τ).loc main_v0_1) = idxAll (argX m c) (argC m c)
      ∧ r.2.mem ((c : Thread nD τ).loc main_v0_0) = distAll (argX m c) (argC m c)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨((h.1 c).1 3).trans (array_idx m c), ((h.1 c).1 2).trans (array_dist m c),
      ((h.1 c).1 0).trans (((dats m 0 c).arrAt_in 0 rfl _).trans (dats_A m c 0)),
      ((h.1 c).1 1).trans (((dats m 0 c).arrAt_in 1 rfl _).trans (dats_A m c 1))⟩, h.2⟩)
    (run_arrays m ρ)

end Cert.KernelIdeal.Hand

end
-- ==== Proof.Original.lean ====
/- The kernel before idealization: the same program text, so what is proved for every reading of its floats holds of it. -/
module

public import proofs.«01_k».proof.Defs
public import proofs.«01_k».proof.Proof.Gen.Kernel
public import proofs.«01_k».proof.Proof.Arrays

@[expose] public section

set_option maxRecDepth 16384

noncomputable section

namespace Cert.Original

open Idealize.ShloMosaic Idealize.SL.Sem

attribute [local instance] Cert.Kernel.Gen.facts Cert.KernelIdeal.Gen.facts

variable {F : FTy → Type} [FloatOps F]

/-- A point's whole body is the same in the kernel and in its idealized form. -/
theorem body_same : Cert.Kernel.cc0__kmeans_block (F := F) = Cert.KernelIdeal.cc0__kmeans_block (F := F) := rfl

/-- Each grid point calls the same body in the kernel and in its idealized form. -/
theorem calls_same : Cert.Kernel.defs₀ (F := F) = Cert.KernelIdeal.defs₀ (F := F) :=
  congrArg Defs.onTc (funext fun ℓ => funext fun a =>
    match ℓ, a with
    | 0, (_, _) => rfl
    | ⟨_ + 1, h⟩, _ => absurd h (Nat.not_lt.2 (Nat.le_add_left _ _)))

/-- The procedures of the kernel are those of its idealized form. -/
theorem defs_same : Cert.Kernel.defs (F := F) = Cert.KernelIdeal.defs (F := F) :=
  congrArg (Pipeline.defs (Cert.KernelIdeal.pcfgs (F := F))) calls_same

/-- The kernel ends from any memory, with its arguments unchanged and its counters at zero. -/
theorem frame : Cert.quiescent_Kernel := fun m ρ _ => by
  rw [defs_same]
  exact (θ_run _ _ _).mono (fun _ h => ⟨fun c => (h.1 c).2.2, h.2⟩) (Cert.KernelIdeal.Hand.run (F := Bits) m ρ)

end Cert.Original

end
-- ==== Proof.Distance.lean ====
module

public import proofs.«01_k».proof.Proof.Arrays
public import Idealize.ShloMosaic.Lib.Pointwise

/-! The kernel's block of distances over the extended reals, entry by entry. -/

@[expose] public section

set_option maxRecDepth 16384

noncomputable section

namespace Cert.KernelIdeal.Hand

open Idealize.ShloMosaic Idealize.ShloMosaic.TcCoe
open Cert.KernelIdeal.Gen

/-- One half's distances: products with the scaled centroids, plus the frame's squared norm, plus the centroid's. -/
theorem pay8_apply (x : Vec Ideal S1024x768 .f32) (w : Vec Ideal S768x1024 .bf16) (n : Vec Ideal S1x1024 .f32)
    (r k : Fin 1024) : k0_pay8 (F := Ideal) x w n (ix2 r k)
      = ∑ q : Fin 768, x (ix2 r q) * w (ix2 q k) + ∑ q : Fin 768, x (ix2 r q) * x (ix2 r q) + n (ix2 0 k) := by
  pointwise [k0_pay8, k0_pay7, k0_pay6]

/-- The two halves' distances are computed by the same operations. -/
theorem pay22_eq (x : Vec Ideal S1024x768 .f32) (w : Vec Ideal S768x1024 .bf16) (n : Vec Ideal S1x1024 .f32) :
    k0_pay22 (F := Ideal) (k0_pay6 x) (k0_pay7 x) w n = k0_pay8 (F := Ideal) x w n := rfl

/-- The entry of the whole block at frame `r` and centroid `k`. -/
def entry (x : Vec Ideal S1024x768 .f32) (W : Vec Ideal S768x2048 .bf16) (n : Vec Ideal S1x2048 .f32)
    (r : Fin 1024) (k : Fin 2048) : EReal :=
  ∑ q : Fin 768, x (ix2 r q) * W (ix2 q k) + ∑ q : Fin 768, x (ix2 r q) * x (ix2 r q) + n (ix2 0 k)

/-- The lower half holds the entries of the first 1024 centroids. -/
theorem lo_apply (x : Vec Ideal S1024x768 .f32) (W : Vec Ideal S768x2048 .bf16) (n : Vec Ideal S1x2048 .f32)
    (r k : Fin 1024) :
    k0_pay8 (F := Ideal) x (wLo W) (nLo n) (ix2 r k) = entry x W n r ⟨k.val, by omega⟩ := by
  rw [pay8_apply]
  pointwise [wLo, nLo, entry]

/-- The upper half holds the entries of the last 1024 centroids. -/
theorem hi_apply (x : Vec Ideal S1024x768 .f32) (W : Vec Ideal S768x2048 .bf16) (n : Vec Ideal S1x2048 .f32)
    (r k : Fin 1024) :
    k0_pay8 (F := Ideal) x (wHi W) (nHi n) (ix2 r k) = entry x W n r ⟨1024 + k.val, by omega⟩ := by
  rw [pay8_apply]
  pointwise [wHi, nHi, entry]

/-- The whole block holds every entry. -/
theorem distBlock_apply (x : Vec Ideal S1024x768 .f32) (W : Vec Ideal S768x2048 .bf16) (n : Vec Ideal S1x2048 .f32)
    (r : Fin 1024) (k : Fin 2048) : distBlock x W n (ix2 r k) = entry x W n r k := by
  refine View.canon_apply_of_pieces (fun i => entry x W n (i 0) (i 1)) (distPieces x W n) ?_ (ix2 r k)
    (distPieces_cover x W n (ix2 r k))
  unfold distPieces
  intro p hp
  rcases List.mem_cons.mp hp with rfl | hp
  · intro (j : S1024x1024.Idx)
    obtain ⟨a, b, rfl⟩ : ∃ a b : Fin 1024, j = ix2 a b := ⟨j 0, j 1, eq_ix2 j⟩
    refine (congrFun (pay22_eq x (wHi W) (nHi n)) (ix2 a b)).trans ((hi_apply x W n a b).trans
      (congrArg₂ (entry x W n) (Fin.ext ?_) (Fin.ext ?_)))
    · show a.val = 0 + 1 * a.val
      omega
    · show 1024 + b.val = 1024 + 1 * b.val
      omega
  · rw [List.mem_singleton.mp hp]
    intro (j : S1024x1024.Idx)
    obtain ⟨a, b, rfl⟩ : ∃ a b : Fin 1024, j = ix2 a b := ⟨j 0, j 1, eq_ix2 j⟩
    refine (lo_apply x W n a b).trans (congrArg₂ (entry x W n) (Fin.ext ?_) (Fin.ext ?_))
    · show a.val = 0 + 1 * a.val
      omega
    · show b.val = 0 + 1 * b.val
      omega

/-- The centroids' squared norms. -/
theorem norms_apply (C : Vec Ideal S768x2048 .f32) (k : Fin 2048) :
    norms C (ix2 0 k) = ∑ q : Fin 768, C (ix2 q k) * C (ix2 q k) := by
  pointwise [norms, k0_pay1]

/-- The scaled centroids. -/
theorem scaled_apply (C : Vec Ideal S768x2048 .f32) (q : Fin 768) (k : Fin 2048) :
    scaled C (ix2 q k) = C (ix2 q k) * Ideal.ofBits .f32 0xC0000000#32 := by
  pointwise [scaled, k0_pay2]

end Cert.KernelIdeal.Hand

end
-- ==== Proof.RefRun.lean ====
/- The reference: what its two results are, and its run. -/
module

public import proofs.«01_k».proof.Proof.Gen.ReferenceIdeal
public import Idealize.ShloMosaic.Lib.StableHlo.Run
public import Idealize.ShloMosaic.Lib.Claim

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The centroids' squared norms, one per column. -/
def sqNorms (C : Vec F S768x2048 .f32) : Vec F S2048 .f32 :=
  Host.reduceAdd (mulf C C) (constant S_ .f32 0x00000000#32) reducesTo_S768x2048_S2048_d0 h_S_
/-- The frames' squared norms, one per row. -/
def sqRows (X : Vec F S8192x768 .f32) : Vec F S8192 .f32 :=
  Host.reduceAdd (mulf X X) (constant S_ .f32 0x00000000#32) reducesTo_S8192x768_S8192_d1 h_S_
/-- Twice the product of frames and centroids. -/
def twiceDot (X : Vec F S8192x768 .f32) (C : Vec F S768x2048 .f32) : Vec F S8192x2048 .f32 :=
  mulf (broadcastInDim S8192x2048 ![] bcast_S_S8192x2048 (constant S_ .f32 0x40000000#32 : Vec F S_ .f32))
    (Host.dotGeneral dot_S8192x768_S768x2048_S8192x2048_1_0_0_1_n_n none X C)
/-- The reference's distances. -/
def dist (X : Vec F S8192x768 .f32) (C : Vec F S768x2048 .f32) : Vec F S8192x2048 .f32 :=
  addf (subf (broadcastInDim S8192x2048 ![0, 1] bcast_S8192x1_S8192x2048_0_1
        (broadcastInDim S8192x1 ![0] bcast_S8192_S8192x1_0 (sqRows X))) (twiceDot X C))
    (broadcastInDim S8192x2048 ![0, 1] bcast_S1x2048_S8192x2048_0_1
      (broadcastInDim S1x2048 ![1] bcast_S2048_S1x2048_1 (sqNorms C)))
/-- The reference's reduction over the columns: the smallest distance of each row and its first column. -/
def best (D : Vec F S8192x2048 .f32) (j : S8192.Idx) : F .f32 × BitVec 32 :=
  Host.argReduce reducer_argmin_f32_i32 D (iotaInDim S8192x2048 32 1) (constant S_ .f32 0x7F800000#32) (constantI S_ 32 0#32)
    reducesTo_S8192x2048_S8192_d1 h_S_ j
/-- The reference's assignments. -/
def idx (X : Vec F S8192x768 .f32) (C : Vec F S768x2048 .f32) : Vec F S8192 .i32 :=
  fun j => (best (dist X C) j).2

set_option maxHeartbeats 1600000 in
/-- The reference's run: its two results, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v13) = idx (m ((c : Thread nD τ).loc main_arg0)) (m ((c : Thread nD τ).loc main_arg1))
      ∧ r.2.mem ((c : Thread nD τ).loc main_v12) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  hlo_run
  all_goals rfl

end Cert.ReferenceIdeal.Hand

end
-- ==== Proof.Equation.lean ====
module

public import proofs.«01_k».proof.Proof.Distance
public import proofs.«01_k».proof.Proof.RefRun

/-! The kernel's distances are the reference's, when every entry is finite. -/

@[expose] public section

set_option maxRecDepth 16384

noncomputable section

namespace Cert.Equation

open Idealize.ShloMosaic Idealize.ShloMosaic.TcCoe
open Cert.KernelIdeal (S8192x768 S768x2048 S8192x2048)
open Cert.KernelIdeal.Hand

/-- The kernel's constant is minus two. -/
theorem neg_two : Ideal.ofBits .f32 0xC0000000#32 = ((-2 : ℝ) : EReal) := by
  simp [Ideal.ofBits, Ideal.ieee]
  rw [← EReal.coe_mul]
  norm_num

/-- The reference's constant is two. -/
theorem two : Ideal.ofBits .f32 0x40000000#32 = ((2 : ℝ) : EReal) := by
  simp [Ideal.ofBits, Ideal.ieee]
  rw [← EReal.coe_mul]
  norm_num

/-- A finite sum of real numbers is the same sum among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- For real `a` and `b`: scaling `b` by minus two inside the products is subtracting twice the product. -/
theorem scale_inside {ι : Type} [Fintype ι] (a b : ι → EReal) (ha : ∀ i, ∃ r : ℝ, a i = r) (hb : ∀ i, ∃ r : ℝ, b i = r) :
    ∑ i, a i * (b i * ((-2 : ℝ) : EReal)) + ∑ i, a i * a i + ∑ i, b i * b i
      = ∑ i, a i * a i - ((2 : ℝ) : EReal) * ∑ i, a i * b i + ∑ i, b i * b i := by
  choose a' ha using ha
  choose b' hb using hb
  simp only [ha, hb, ← EReal.coe_mul, coe_sum, ← EReal.coe_add, ← EReal.coe_sub]
  congr 2
  rw [Finset.mul_sum, sub_eq_neg_add, ← Finset.sum_neg_distrib]
  congr 1
  exact Finset.sum_congr rfl fun i _ => by ring

/-- The reference's distance of frame `r` and centroid `k`. -/
theorem dist_apply (X : Vec Ideal S8192x768 .f32) (C : Vec Ideal S768x2048 .f32) (r : Fin 8192) (k : Fin 2048) :
    Cert.ReferenceIdeal.Hand.dist X C (ix2 r k)
      = ∑ q : Fin 768, X (ix2 r q) * X (ix2 r q) - ((2 : ℝ) : EReal) * ∑ q : Fin 768, X (ix2 r q) * C (ix2 q k)
        + ∑ q : Fin 768, C (ix2 q k) * C (ix2 q k) := by
  rw [← two]
  pointwise [Cert.ReferenceIdeal.Hand.dist, Cert.ReferenceIdeal.Hand.sqRows, Cert.ReferenceIdeal.Hand.sqNorms, Cert.ReferenceIdeal.Hand.twiceDot]

/-- The kernel's distance of frame `r` and centroid `k`. -/
theorem distAll_apply (X : Vec Ideal S8192x768 .f32) (C : Vec Ideal S768x2048 .f32) (r : Fin 8192) (k : Fin 2048) :
    Cert.KernelIdeal.Hand.distAll X C (ix2 r k)
      = ∑ q : Fin 768, X (ix2 r q) * (C (ix2 q k) * ((-2 : ℝ) : EReal)) + ∑ q : Fin 768, X (ix2 r q) * X (ix2 r q)
        + ∑ q : Fin 768, C (ix2 q k) * C (ix2 q k) := by
  refine (distBlock_apply (frames X (blockNo r)) (scaled C) (norms C) (inBlock r) k).trans ?_
  have hx : ∀ q : Fin 768, frames X (blockNo r) (ix2 (inBlock r) q) = X (ix2 r q) := fun q =>
    congrArg (fun a => X (ix2 a q)) (rowOf_blockNo r)
  unfold entry
  rw [norms_apply]
  simp only [hx, scaled_apply, neg_two]

/-- With every entry a real number, the kernel's distances are the reference's. -/
theorem dist_eq (X : Vec Ideal S8192x768 .f32) (C : Vec Ideal S768x2048 .f32) (hX : ∀ i, ∃ r : ℝ, X i = (r : EReal))
    (hC : ∀ i, ∃ r : ℝ, C i = (r : EReal)) : distAll X C = Cert.ReferenceIdeal.Hand.dist X C := by
  funext (i : S8192x2048.Idx)
  obtain ⟨r, k, rfl⟩ : ∃ (r : Fin 8192) (k : Fin 2048), i = ix2 r k := ⟨i 0, i 1, eq_ix2 i⟩
  rw [distAll_apply, dist_apply]
  exact scale_inside (fun q : Fin 768 => X (ix2 r q)) (fun q => C (ix2 q k)) (fun q => hX _) fun q => hC _

end Cert.Equation

end
-- ==== Proof.Least.lean ====
module

public import Idealize.ShloMosaic.Lib.Pointwise

/-! The first column at which a row takes its least value, and how a search over parts of the row finds it. -/

@[expose] public section

noncomputable section

namespace Cert.Least

open Idealize.ShloMosaic

/-- Among the columns in `S`, the row `f` is least at `k`, and `k` is the first column where it is. -/
def First {n : ℕ} (f : Fin n → EReal) (S : Fin n → Prop) (k : Fin n) : Prop :=
  S k ∧ ∀ j, S j → f k < f j ∨ (f k = f j ∧ k ≤ j)

/-- There is only one such column. -/
theorem First.unique {n : ℕ} {f : Fin n → EReal} {S : Fin n → Prop} {k k' : Fin n}
    (h : First f S k) (h' : First f S k') : k = k' := by
  rcases h.2 k' h'.1 with h1 | ⟨h1, h2⟩ <;> rcases h'.2 k h.1 with h3 | ⟨h3, h4⟩
  · exact absurd h1 (not_lt.mpr h3.le)
  · exact absurd h3.symm h1.ne
  · exact absurd h1.symm h3.ne
  · exact le_antisymm h2 h4

/-- Two parts of the row, the first all before the second: the earlier part's column wins a tie. -/
theorem First.merge {n : ℕ} {f : Fin n → EReal} {S T : Fin n → Prop} {a b : Fin n}
    (ha : First f S a) (hb : First f T b) (hST : ∀ i j, S i → T j → i ≤ j) :
    First f (fun j => S j ∨ T j) (if f a ≤ f b then a else b) := by
  by_cases h : f a ≤ f b
  · rw [if_pos h]
    refine ⟨Or.inl ha.1, fun j hj => ?_⟩
    rcases hj with hj | hj
    · exact ha.2 j hj
    · have hle : f a ≤ f j := h.trans ((hb.2 j hj).elim le_of_lt fun e => e.1.le)
      exact hle.lt_or_eq.imp id fun e => ⟨e, hST a j ha.1 hj⟩
  · rw [if_neg h]
    refine ⟨Or.inr hb.1, fun j hj => ?_⟩
    rcases hj with hj | hj
    · exact Or.inl ((not_le.mp h).trans_le ((ha.2 j hj).elim le_of_lt fun e => e.1.le))
    · exact hb.2 j hj

/-- Which of eight values first equals `m`, asked in order; `8` if none does. -/
def which (g : Fin 8 → EReal) (m : EReal) : BitVec 32 :=
  if g 0 = m then 0#32 else if g 1 = m then 1#32 else if g 2 = m then 2#32 else if g 3 = m then 3#32
  else if g 4 = m then 4#32 else if g 5 = m then 5#32 else if g 6 = m then 6#32 else if g 7 = m then 7#32 else 8#32

/-- The least of eight values, taken in order. -/
def least (g : Fin 8 → EReal) : EReal :=
  min (min (min (min (min (min (min (g 0) (g 1)) (g 2)) (g 3)) (g 4)) (g 5)) (g 6)) (g 7)

/-- The least of eight values is below each of them. -/
theorem least_le (g : Fin 8 → EReal) (t : Fin 8) : least g ≤ g t := by
  unfold least
  fin_cases t <;> simp

/-- The least of eight values is one of them. -/
theorem least_mem (g : Fin 8 → EReal) : ∃ t, g t = least g := by
  have pick : ∀ a b : EReal, (∃ t, g t = a) → (∃ t, g t = b) → ∃ t, g t = min a b := fun a b ha hb =>
    (min_choice a b).elim (fun e => e.symm ▸ ha) fun e => e.symm ▸ hb
  unfold least
  exact pick _ _ (pick _ _ (pick _ _ (pick _ _ (pick _ _ (pick _ _ (pick _ _ ⟨0, rfl⟩ ⟨1, rfl⟩) ⟨2, rfl⟩)
    ⟨3, rfl⟩) ⟨4, rfl⟩) ⟨5, rfl⟩) ⟨6, rfl⟩) ⟨7, rfl⟩

/-- Asking in order finds the first value equal to `m`, when one is. -/
theorem which_eq (g : Fin 8 → EReal) (m : EReal) (t : Fin 8) (ht : g t = m) (hb : ∀ s, s < t → g s ≠ m) :
    which g m = BitVec.ofNat 32 t.val := by
  unfold which
  fin_cases t
  all_goals
    simp only [Fin.forall_fin_succ, Fin.isValue, Fin.zero_eta, Fin.mk_one, Fin.reduceFinMk] at ht hb ⊢
    simp_all

/-- The least of eight values is at the place found by asking in order, and that place is the first. -/
theorem first_eight (g : Fin 8 → EReal) :
    ∃ t : Fin 8, First g (fun _ => True) t ∧ g t = least g ∧ which g (least g) = BitVec.ofNat 32 t.val := by
  classical
  obtain ⟨t, ht⟩ := least_mem g
  have hex : ∃ n, ∃ h : n < 8, g ⟨n, h⟩ = least g := ⟨t.val, t.isLt, ht⟩
  obtain ⟨hlt, he⟩ := Nat.find_spec hex
  have hb : ∀ s : Fin 8, s < ⟨Nat.find hex, hlt⟩ → g s ≠ least g := fun s hs e =>
    Nat.find_min hex hs ⟨s.isLt, e⟩
  refine ⟨⟨Nat.find hex, hlt⟩, ⟨trivial, fun j _ => ?_⟩, he, which_eq g _ _ he hb⟩
  rw [he]
  refine (least_le g j).lt_or_eq.imp id fun e => ⟨e, ?_⟩
  by_contra hj
  exact hb j (not_le.mp hj) e.symm

/-- The signed minimum of words below `2³¹`, from the greatest signed word: one of them, and below each. -/
theorem fold_minsi {ι : Type} [DecidableEq ι] (s : Finset ι) (c : ι → ℕ) (hc : ∀ i, c i ≤ 2048) (hs : s.Nonempty) :
    ∃ i ∈ s, s.fold IntOp.minsi 2147483647#32 (fun i => BitVec.ofNat 32 (c i)) = BitVec.ofNat 32 (c i) ∧
      ∀ j ∈ s, c i ≤ c j := by
  have small : ∀ i, (BitVec.ofNat 32 (c i)).toInt = (c i : ℤ) := fun i => by
    have := hc i
    rw [BitVec.toInt_eq_toNat_of_lt] <;> simp only [BitVec.toNat_ofNat] <;> omega
  induction hs using Finset.Nonempty.cons_induction with
  | singleton a =>
    refine ⟨a, Finset.mem_singleton_self a, ?_, fun j hj => by rw [Finset.mem_singleton.mp hj]⟩
    rw [Finset.fold_singleton]
    unfold IntOp.minsi
    have h1 := small a
    have h2 := hc a
    have h3 : (2147483647#32 : BitVec 32).toInt = 2147483647 := by decide
    simp [BitVec.slt, h1, h3]
    omega
  | cons a s ha _ ih =>
    obtain ⟨i, hi, he, hmin⟩ := ih
    rw [Finset.fold_cons, he]
    by_cases h : c a ≤ c i
    · refine ⟨a, Finset.mem_cons_self a s, ?_, fun j hj => ?_⟩
      · unfold IntOp.minsi
        have h1 := small a
        have h2 := small i
        simp [BitVec.slt, h1, h2]
        intro h3
        have : c a = c i := by omega
        rw [this]
      · rcases Finset.mem_cons.mp hj with rfl | hj
        · exact le_rfl
        · exact h.trans (hmin j hj)
    · refine ⟨i, Finset.mem_cons_of_mem hi, ?_, fun j hj => ?_⟩
      · unfold IntOp.minsi
        have h1 := small a
        have h2 := small i
        simp [BitVec.slt, h1, h2]
        intro h3
        omega
      · rcases Finset.mem_cons.mp hj with rfl | hj
        · exact (not_le.mp h).le
        · exact hmin j hj

/-- The minimum of finitely many values, from the greatest value: below each of them, and one of them. -/
theorem fold_min {ι : Type} [DecidableEq ι] (s : Finset ι) (v : ι → EReal) (hs : s.Nonempty) :
    (∀ i ∈ s, s.fold min ⊤ v ≤ v i) ∧ ∃ i ∈ s, v i = s.fold min ⊤ v := by
  induction hs using Finset.Nonempty.cons_induction with
  | singleton a => simp
  | cons a s ha _ ih =>
    obtain ⟨hle, i, hi, he⟩ := ih
    rw [Finset.fold_cons]
    refine ⟨fun j hj => ?_, ?_⟩
    · rcases Finset.mem_cons.mp hj with rfl | hj
      · exact min_le_left _ _
      · exact (min_le_right _ _).trans (hle j hj)
    · rcases min_choice (v a) (s.fold min ⊤ v) with e | e
      · exact ⟨a, Finset.mem_cons_self a s, e.symm⟩
      · exact ⟨i, Finset.mem_cons_of_mem hi, he.trans e.symm⟩

/-- The bit pattern that a search for a minimum starts from is the greatest value. -/
theorem start_top : Ideal.ofBits .f32 0x7F800000#32 = (⊤ : EReal) := by
  simp [Ideal.ofBits, Ideal.ieee]

/-- A row searched part by part: each part `l` offers its first least column `k l`; of the parts whose
    offer reaches the least value of all, the lowest column is the row's first least column. -/
theorem first_of_parts {n : ℕ} {ι : Type} [Fintype ι] [DecidableEq ι] [Nonempty ι] (hn : n ≤ 2048) (f : Fin n → EReal)
    (S : ι → Fin n → Prop) (k : ι → Fin n) (hk : ∀ l, First f (S l) (k l)) (hS : ∀ j, ∃ l, S l j)
    (m : EReal) (hm : m = Finset.univ.fold min ⊤ fun l => f (k l)) :
    ∃ a : Fin n, First f (fun _ => True) a ∧
      Finset.univ.fold IntOp.minsi 2147483647#32
        (fun l => if f (k l) = m then BitVec.ofNat 32 (k l).val else 2048#32) = BitVec.ofNat 32 a.val := by
  obtain ⟨hle, l0, -, h0⟩ := fold_min Finset.univ (fun l => f (k l)) Finset.univ_nonempty
  rw [← hm] at hle h0
  have hw : (fun l => if f (k l) = m then BitVec.ofNat 32 (k l).val else 2048#32)
      = fun l => BitVec.ofNat 32 (if f (k l) = m then (k l).val else 2048) := by
    funext l
    split <;> rfl
  obtain ⟨l1, -, h1, hmin⟩ := fold_minsi Finset.univ (fun l => if f (k l) = m then (k l).val else 2048)
    (fun l => by split <;> have := (k l).isLt <;> omega) Finset.univ_nonempty
  have h2 : f (k l1) = m := by
    by_contra h
    have h3 := hmin l0 (Finset.mem_univ _)
    simp only [if_neg h, if_pos h0] at h3
    have := (k l0).isLt
    omega
  refine ⟨k l1, ⟨trivial, fun j _ => ?_⟩, ?_⟩
  · obtain ⟨l, hl⟩ := hS j
    rw [h2]
    rcases (hk l).2 j hl with h | ⟨h, h'⟩
    · exact Or.inl ((hle l (Finset.mem_univ _)).trans_lt h)
    · refine (hle l (Finset.mem_univ _)).lt_or_eq.imp (fun h3 => h ▸ h3) fun h3 => ⟨h3.trans h, ?_⟩
      have h4 := hmin l (Finset.mem_univ _)
      simp only [if_pos h2, if_pos h3.symm] at h4
      exact (Fin.le_def.mpr h4).trans h'
  · rw [hw, h1]
    simp only [if_pos h2]

end Cert.Least

end

end
-- ==== Proof.Lanes.lean ====
module

public import proofs.«01_k».proof.Proof.Distance
public import proofs.«01_k».proof.Proof.Least

/-! What the 128 lanes keep of a row: each the first least of its sixteen columns. -/

@[expose] public section

set_option maxRecDepth 16384

noncomputable section

namespace Cert.KernelIdeal.Hand

open Idealize.ShloMosaic Idealize.ShloMosaic.TcCoe
open Cert.KernelIdeal.Gen Cert.Least

/-- The eight columns of one half that lane `l` looks at. -/
def eight (H : Vec Ideal S1024x1024 .f32) (r : Fin 1024) (l : Fin 128) (g : Fin 8) : EReal :=
  H (ix2 r ⟨128 * g.val + l.val, by omega⟩)

/-- The column a lane records for a half: 128 times the place of the least value, plus the lane, plus where the half starts. -/
def laneWord (g : Fin 8 → EReal) (l : Fin 128) (base : BitVec 32) : BitVec 32 :=
  IntOp.addi (IntOp.addi (IntOp.muli (which g (least g)) 128#32) (BitVec.ofNat 32 l.val)) base

/-- The value a lane keeps of the lower half. -/
theorem pay17_apply (x : Vec Ideal S1024x768 .f32) (w : Vec Ideal S768x1024 .bf16) (n : Vec Ideal S1x1024 .f32)
    (r : Fin 1024) (l : Fin 128) :
    k0_pay17 (F := Ideal) x w n (ix2 r l) = least (eight (k0_pay8 x w n) r l) := by
  pointwise [k0_pay17, k0_pay9, k0_pay10, k0_pay11, k0_pay12, k0_pay13, k0_pay14, k0_pay15, k0_pay16, eight, least]

/-- The value a lane keeps of the upper half. -/
theorem pay31_apply (x : Vec Ideal S1024x768 .f32) (w : Vec Ideal S768x1024 .bf16) (n : Vec Ideal S1x1024 .f32)
    (r : Fin 1024) (l : Fin 128) :
    k0_pay31 (F := Ideal) (k0_pay6 x) (k0_pay7 x) w n (ix2 r l) = least (eight (k0_pay8 x w n) r l) := by
  pointwise [k0_pay31, k0_pay23, k0_pay24, k0_pay25, k0_pay26, k0_pay27, k0_pay28, k0_pay29, k0_pay30, pay22_eq,
    eight, least]

/-- The column a lane records for the lower half. -/
theorem loCol_apply (x : Vec Ideal S1024x768 .f32) (w : Vec Ideal S768x1024 .bf16) (n : Vec Ideal S1x1024 .f32)
    (r : Fin 1024) (l : Fin 128) :
    k0_pay21 (F := Ideal) (k0_pay9 x w n) (k0_pay10 x w n) (k0_pay11 x w n) (k0_pay17 x w n) (k0_pay18 x w n)
      (k0_pay19 x w n) k0_pay20 (ix2 r l) = laneWord (eight (k0_pay8 x w n) r l) l 0#32 := by
  pointwise [k0_pay21, k0_pay18, k0_pay19, k0_pay20]
  rw [pay17_apply]
  unfold laneWord
  generalize least (eight (k0_pay8 x w n) r l) = m
  pointwise [k0_pay9, k0_pay10, k0_pay11, k0_pay12, k0_pay13, k0_pay14, k0_pay15, k0_pay16, which, eight]

/-- The value a lane keeps of the whole row. -/
theorem valBlock_apply (x : Vec Ideal S1024x768 .f32) (W : Vec Ideal S768x2048 .bf16) (n : Vec Ideal S1x2048 .f32)
    (r : Fin 1024) (l : Fin 128) :
    valBlock x W n (ix2 r l) = min (least (eight (k0_pay8 x (wLo W) (nLo n)) r l))
      (least (eight (k0_pay8 x (wHi W) (nHi n)) r l)) := by
  pointwise [valBlock, k0_pay4]
  rw [pay17_apply, pay31_apply]

/-- The column a lane records for the whole row, given the lower half's value `v` and column `c`. -/
theorem pay5_apply (v : Vec Ideal S1024x128 .f32) (c : Vec Ideal S1024x128 .i32) (x : Vec Ideal S1024x768 .f32)
    (w : Vec Ideal S768x1024 .bf16) (n : Vec Ideal S1x1024 .f32) (r : Fin 1024) (l : Fin 128) :
    k0_pay5 (F := Ideal) v c
      (k0_pay23 (k0_pay6 x) (k0_pay7 x) w n) (k0_pay24 (k0_pay6 x) (k0_pay7 x) w n)
      (k0_pay25 (k0_pay6 x) (k0_pay7 x) w n) (k0_pay26 (k0_pay6 x) (k0_pay7 x) w n)
      (k0_pay27 (k0_pay6 x) (k0_pay7 x) w n) (k0_pay28 (k0_pay6 x) (k0_pay7 x) w n)
      (k0_pay31 (k0_pay6 x) (k0_pay7 x) w n) (k0_pay32 (k0_pay6 x) (k0_pay7 x) w n)
      (k0_pay33 (k0_pay6 x) (k0_pay7 x) w n) 6#32 (ix2 r l)
      = if v (ix2 r l) ≤ least (eight (k0_pay8 x w n) r l) then c (ix2 r l)
        else laneWord (eight (k0_pay8 x w n) r l) l 1024#32 := by
  pointwise [k0_pay5, k0_pay32, k0_pay33]
  rw [pay31_apply]
  unfold laneWord
  generalize least (eight (k0_pay8 x w n) r l) = m
  pointwise [k0_pay23, k0_pay24, k0_pay25, k0_pay26, k0_pay27, k0_pay28, k0_pay29, k0_pay30, pay22_eq, which, eight]

/-- The column a lane records for the whole row. -/
theorem colBlock_apply (x : Vec Ideal S1024x768 .f32) (W : Vec Ideal S768x2048 .bf16) (n : Vec Ideal S1x2048 .f32)
    (r : Fin 1024) (l : Fin 128) :
    colBlock x W n (ix2 r l)
      = if least (eight (k0_pay8 x (wLo W) (nLo n)) r l) ≤ least (eight (k0_pay8 x (wHi W) (nHi n)) r l)
        then laneWord (eight (k0_pay8 x (wLo W) (nLo n)) r l) l 0#32
        else laneWord (eight (k0_pay8 x (wHi W) (nHi n)) r l) l 1024#32 := by
  unfold colBlock
  rw [pay5_apply, pay17_apply, loCol_apply]

/-- A lane's eight columns of the half starting at `base`: the recorded word is the first least of them. -/
theorem half (f : Fin 2048 → EReal) (base : ℕ) (hb : base + 1024 ≤ 2048) (hm : base % 128 = 0) (l : Fin 128)
    (g : Fin 8 → EReal) (hg : ∀ t : Fin 8, g t = f ⟨base + (128 * t.val + l.val), by omega⟩) :
    ∃ k : Fin 2048, First f (fun j => base ≤ j.val ∧ j.val < base + 1024 ∧ j.val % 128 = l.val) k ∧ f k = least g ∧
      laneWord g l (BitVec.ofNat 32 base) = BitVec.ofNat 32 k.val := by
  obtain ⟨t, hf, ht, hw⟩ := first_eight g
  refine ⟨⟨base + (128 * t.val + l.val), by omega⟩, ⟨?_, fun j hj => ?_⟩, (hg t).symm.trans ht, ?_⟩
  · have := t.isLt
    have := l.isLt
    refine ⟨by simp, ?_, ?_⟩ <;> simp only <;> omega
  · have hs : (j.val - base) / 128 < 8 := by omega
    have he : f j = g ⟨(j.val - base) / 128, hs⟩ := by
      rw [hg]
      refine congrArg f (Fin.ext ?_)
      simp only
      omega
    rw [← hg t, he]
    refine (hf.2 ⟨(j.val - base) / 128, hs⟩ trivial).imp id fun h => ⟨h.1, ?_⟩
    have h2 := Fin.le_def.mp h.2
    refine Fin.le_def.mpr ?_
    simp only at h2 ⊢
    omega
  · unfold laneWord
    rw [hw]
    unfold IntOp.addi IntOp.muli
    apply BitVec.eq_of_toNat_eq
    simp
    omega

/-- A lane keeps the least of its sixteen columns of the row, and records the first column where it is. -/
theorem lane (x : Vec Ideal S1024x768 .f32) (W : Vec Ideal S768x2048 .bf16) (n : Vec Ideal S1x2048 .f32)
    (r : Fin 1024) (l : Fin 128) :
    ∃ k : Fin 2048, First (entry x W n r) (fun j => j.val % 128 = l.val) k ∧
      valBlock x W n (ix2 r l) = entry x W n r k ∧ colBlock x W n (ix2 r l) = BitVec.ofNat 32 k.val := by
  obtain ⟨a, ha, hav, haw⟩ := half (entry x W n r) 0 (by omega) rfl l (eight (k0_pay8 x (wLo W) (nLo n)) r l) fun t =>
    (lo_apply x W n r _).trans (congrArg (entry x W n r) (Fin.ext (Nat.zero_add _).symm))
  obtain ⟨b, hb, hbv, hbw⟩ := half (entry x W n r) 1024 (by omega) rfl l (eight (k0_pay8 x (wHi W) (nHi n)) r l) fun t =>
    hi_apply x W n r _
  have hk := First.merge ha hb fun i j hi hj => Fin.le_def.mpr (by omega)
  rw [valBlock_apply, colBlock_apply, ← hav, ← hbv, haw, hbw]
  refine ⟨_, ⟨?_, fun j hj => hk.2 j (by have := j.isLt; omega)⟩, ?_, ?_⟩
  · rcases hk.1 with h | h <;> exact h.2.2
  · split
    · exact min_eq_left ‹_›
    · exact min_eq_right (not_le.mp ‹_›).le
  · split <;> rfl

/-- The kernel assigns to each frame of a block the first centroid with the least distance. -/
theorem idxAt_apply (X : Vec Ideal S8192x768 .f32) (C : Vec Ideal S768x2048 .f32) (b : ℕ) (r : Fin 1024) :
    ∃ a : Fin 2048, First (entry (frames X b) (scaled C) (norms C) r) (fun _ => True) a ∧
      idxAt X C b (ix1 r) = BitVec.ofNat 32 a.val := by
  choose k hk hv hw using lane (frames X b) (scaled C) (norms C) r
  obtain ⟨a, ha, he⟩ := first_of_parts le_rfl (entry (frames X b) (scaled C) (norms C) r)
    (fun (l : Fin 128) j => j.val % 128 = l.val) k hk (fun j => ⟨⟨j.val % 128, Nat.mod_lt _ (by omega)⟩, rfl⟩) _ rfl
  refine ⟨a, ha, Eq.trans ?_ he⟩
  pointwise [idxAt, k0_pay3]
  unfold valAt colAt
  simp only [hv, hw, start_top]

end Cert.KernelIdeal.Hand

end
-- ==== Proof.RefArgmin.lean ====
module

public import proofs.«01_k».proof.Proof.RefRun
public import proofs.«01_k».proof.Proof.Least

/-! The reference's assignment of a row is the first column with the row's least distance. -/

@[expose] public section

set_option maxRecDepth 16384

noncomputable section

namespace Cert.ReferenceIdeal.Hand

open Idealize.ShloMosaic Idealize.ShloMosaic.TcCoe
open Cert.ReferenceIdeal Cert.ReferenceIdeal.Gen Cert.Least

/-- A pair of a value and a column comes no later than another: a smaller value, or the same value and no later a column. -/
def NoLater (p q : Ideal .f32 × BitVec 32) : Prop :=
  (show EReal from p.1) < (show EReal from q.1) ∨ (p.1 = q.1 ∧ p.2.toInt ≤ q.2.toInt)

/-- No pair comes before itself. -/
theorem NoLater.refl (p : Ideal .f32 × BitVec 32) : NoLater p p := Or.inr ⟨rfl, le_rfl⟩

/-- The order carries over. -/
theorem NoLater.trans {p q s : Ideal .f32 × BitVec 32} (h : NoLater p q) (h' : NoLater q s) : NoLater p s := by
  rcases h with h | ⟨h, k⟩ <;> rcases h' with h' | ⟨h', k'⟩
  · exact Or.inl (lt_trans h h')
  · exact Or.inl (h' ▸ h)
  · exact Or.inl (h ▸ h')
  · exact Or.inr ⟨h.trans h', k.trans k'⟩

/-- A smaller value on the left is kept with its column. -/
theorem step_lt {a b : EReal} (h : a < b) (i j : BitVec 32) :
    reducer_argmin_f32_i32 (F := Ideal) (a, i) (b, j) = (a, i) := by
  simp [reducer_argmin_f32_i32, Ideal.cmpf_def, Ideal.cmp, h, h.ne, Scalar.select, IntOp.ori, IntOp.andi]

/-- A smaller value on the right is kept with its column. -/
theorem step_gt {a b : EReal} (h : b < a) (i j : BitVec 32) :
    reducer_argmin_f32_i32 (F := Ideal) (a, i) (b, j) = (b, j) := by
  simp [reducer_argmin_f32_i32, Ideal.cmpf_def, Ideal.cmp, not_lt.mpr h.le, h.ne', Scalar.select, IntOp.ori, IntOp.andi]

/-- Of two equal values the lower column is kept. -/
theorem step_eq (a : EReal) (i j : BitVec 32) :
    reducer_argmin_f32_i32 (F := Ideal) (a, i) (a, j) = (a, if i.slt j then i else j) := by
  cases hs : i.slt j <;>
    simp [reducer_argmin_f32_i32, Ideal.cmpf_def, Ideal.cmp, Scalar.select, IntOp.ori, IntOp.andi, IntOp.cmpi, hs]

/-- One step of the reduction keeps one of the two pairs, and it comes no later than either. -/
theorem step (p q : Ideal .f32 × BitVec 32) :
    (reducer_argmin_f32_i32 p q = p ∨ reducer_argmin_f32_i32 p q = q) ∧
      NoLater (reducer_argmin_f32_i32 p q) p ∧ NoLater (reducer_argmin_f32_i32 p q) q := by
  obtain ⟨a, i⟩ := p
  obtain ⟨b, j⟩ := q
  rcases lt_trichotomy (α := EReal) a b with h | h | h
  · rw [step_lt h i j]
    exact ⟨Or.inl rfl, NoLater.refl _, Or.inl h⟩
  · obtain rfl : a = b := h
    rw [step_eq a i j]
    cases hs : i.slt j
    · refine ⟨Or.inr rfl, Or.inr ⟨rfl, ?_⟩, NoLater.refl _⟩
      exact not_lt.mp (of_decide_eq_false hs)
    · refine ⟨Or.inl rfl, NoLater.refl _, Or.inr ⟨rfl, ?_⟩⟩
      exact (of_decide_eq_true hs).le
  · rw [step_gt h i j]
    exact ⟨Or.inr rfl, Or.inl h, NoLater.refl _⟩

/-- The reduction of a list of pairs keeps one of them, and it comes no later than any. -/
theorem fold_step : ∀ (L : List (Ideal .f32 × BitVec 32)) (p : Ideal .f32 × BitVec 32),
    L.foldl reducer_argmin_f32_i32 p ∈ p :: L ∧ ∀ q ∈ p :: L, NoLater (L.foldl reducer_argmin_f32_i32 p) q
  | [], p => ⟨List.mem_singleton_self p, fun q hq => List.mem_singleton.mp hq ▸ NoLater.refl p⟩
  | a :: L, p => by
    obtain ⟨hm, hl⟩ := fold_step L (reducer_argmin_f32_i32 p a)
    obtain ⟨hs, hp, ha⟩ := step p a
    rw [List.foldl_cons]
    have h0 := hl _ List.mem_cons_self
    refine ⟨?_, fun q hq => ?_⟩
    · rcases List.mem_cons.mp hm with h | h
      · rcases hs with e | e
        · rw [h, e]; exact List.mem_cons_self
        · rw [h, e]; exact List.mem_cons_of_mem _ List.mem_cons_self
      · exact List.mem_cons_of_mem _ (List.mem_cons_of_mem _ h)
    · rcases List.mem_cons.mp hq with rfl | hq
      · exact h0.trans hp
      · rcases List.mem_cons.mp hq with rfl | hq
        · exact h0.trans ha
        · exact hl q (List.mem_cons_of_mem _ hq)

/-- The pairs of a row: its distances with their columns. -/
theorem mem_row (D : Vec Ideal S8192x2048 .f32) (r : Fin 8192) (p : Ideal .f32 × BitVec 32) :
    p ∈ Host.argReduceFiber D (iotaInDim S8192x2048 32 1) reducesTo_S8192x2048_S8192_d1 (ix1 r) ↔
      ∃ k : Fin 2048, p = (D (ix2 r k), BitVec.ofNat 32 k.val) := by
  have hd : ∀ i : S8192x2048.Idx, reducesTo_S8192x2048_S8192_d1.drop i = ix1 r ↔ i 0 = r := fun i => by
    have hv : (reducesTo_S8192x2048_S8192_d1.drop i 0 : ℕ) = i 0 := Shape.ReducesTo.drop_apply_val _ i 0
    constructor
    · intro h
      rw [h] at hv
      exact Fin.ext hv.symm
    · intro h
      funext a
      fin_cases a
      exact Fin.ext (hv.trans (congrArg Fin.val h))
  unfold Host.argReduceFiber
  simp only [List.mem_map, List.mem_filter, List.mem_finRange, true_and, decide_eq_true_eq, hd]
  constructor
  · rintro ⟨n, hn, rfl⟩
    generalize S8192x2048.rowMajor.symm n = i at hn
    obtain ⟨a, k, rfl⟩ : ∃ (a : Fin 8192) (k : Fin 2048), i = ix2 a k := ⟨i 0, i 1, eq_ix2 i⟩
    obtain rfl : a = r := hn
    exact ⟨k, rfl⟩
  · rintro ⟨k, rfl⟩
    exact ⟨S8192x2048.rowMajor (ix2 r k), by rw [Equiv.symm_apply_apply]; rfl, by rw [Equiv.symm_apply_apply]; rfl⟩

/-- A column's word, read as a signed number, is the column. -/
theorem word_toInt (k : Fin 2048) : (BitVec.ofNat 32 k.val).toInt = (k.val : ℤ) := by
  have := k.isLt
  rw [BitVec.toInt_eq_toNat_of_lt] <;> simp only [BitVec.toNat_ofNat] <;> omega

/-- The reference's reduction of row `r` gives the first column with the row's least distance. -/
theorem best_apply (D : Vec Ideal S8192x2048 .f32) (r : Fin 8192) :
    ∃ a : Fin 2048, First (fun k => D (ix2 r k)) (fun _ => True) a ∧
      (best D (ix1 r)).2 = BitVec.ofNat 32 a.val := by
  have hb : best D (ix1 r) = (Host.argReduceFiber D (iotaInDim S8192x2048 32 1) reducesTo_S8192x2048_S8192_d1
      (ix1 r)).foldl reducer_argmin_f32_i32 ((⊤ : EReal), 0#32) := by
    unfold best
    rw [Ideal.argReduce_eq_reduce2, Host.reduce2_eq_foldl_fiber]
    exact congrArg (fun p : Ideal .f32 × BitVec 32 => List.foldl reducer_argmin_f32_i32 p
      (Host.argReduceFiber D (iotaInDim S8192x2048 32 1) reducesTo_S8192x2048_S8192_d1 (ix1 r)))
      (Prod.ext start_top rfl)
  obtain ⟨hm, hl⟩ := fold_step (Host.argReduceFiber D (iotaInDim S8192x2048 32 1) reducesTo_S8192x2048_S8192_d1
      (ix1 r)) ((⊤ : EReal), 0#32)
  rw [← hb] at hm hl
  have hrow : ∀ k : Fin 2048, NoLater (best D (ix1 r)) (D (ix2 r k), BitVec.ofNat 32 k.val) := fun k =>
    hl _ (List.mem_cons_of_mem _ ((mem_row D r _).mpr ⟨k, rfl⟩))
  have hex : ∃ a : Fin 2048, best D (ix1 r) = (D (ix2 r a), BitVec.ofNat 32 a.val) := by
    rcases List.mem_cons.mp hm with h | h
    · refine ⟨0, ?_⟩
      have h0 := hrow 0
      rw [h] at h0 ⊢
      rcases h0 with h0 | h0
      · exact absurd h0 not_top_lt
      · exact Prod.ext h0.1 rfl
    · exact (mem_row D r _).mp h
  obtain ⟨a, ha⟩ := hex
  refine ⟨a, ⟨trivial, fun j _ => ?_⟩, by rw [ha]⟩
  have h := hrow j
  rw [ha] at h
  refine h.imp id fun e => ⟨e.1, ?_⟩
  have := e.2
  rw [word_toInt, word_toInt] at this
  exact Fin.le_def.mpr (by omega)

/-- The reference's assignments are the columns its reduction gives. -/
theorem idx_eq_best (X : Vec Ideal S8192x768 .f32) (C : Vec Ideal S768x2048 .f32) :
    idx X C = fun j => (best (dist X C) j).2 := rfl

/-- An array equal, place by place, to the second halves of pairs is the array of second halves. -/
theorem seconds_eq {ι α β : Type} (P : ι → α × β) (w : ι → β) (h : ∀ j, w j = (P j).2) : w = fun j => (P j).2 := funext h

end Cert.ReferenceIdeal.Hand

end
-- ==== Proof.Results.lean ====
module

public import proofs.«01_k».proof.Pre_finite
public import proofs.«01_k».proof.Proof.Equation
public import proofs.«01_k».proof.Proof.Lanes
public import proofs.«01_k».proof.Proof.RefArgmin

/-! Both results of the kernel are the reference's, when every entry of the inputs is finite. -/

@[expose] public section

set_option maxRecDepth 16384

noncomputable section

namespace Cert.Equation

open Idealize.ShloMosaic Idealize.ShloMosaic.TcCoe
open Cert.KernelIdeal (S8192x768 S768x2048 S8192x2048 S8192)
open Cert.KernelIdeal.Hand Cert.Least

/-- The array of assignments at frame `r`. -/
theorem idxAll_at (X : Vec Ideal S8192x768 .f32) (C : Vec Ideal S768x2048 .f32) (r : Fin 8192) :
    idxAll X C (ix1 r) = idxAt X C (blockNo r) (ix1 (inBlock r)) := by
  unfold idxAll
  rfl

/-- The array of distances at frame `r` and centroid `k`. -/
theorem distAll_at (X : Vec Ideal S8192x768 .f32) (C : Vec Ideal S768x2048 .f32) (r : Fin 8192) (k : Fin 2048) :
    distAll X C (ix2 r k) = entry (frames X (blockNo r)) (scaled C) (norms C) (inBlock r) k := by
  rw [← distBlock_apply]
  unfold distAll distAt
  rfl

/-- The kernel's assignment of a frame is what the reference's reduction finds in the kernel's distances. -/
theorem idxAll_best (X : Vec Ideal S8192x768 .f32) (C : Vec Ideal S768x2048 .f32) (i : S8192.Idx) :
    idxAll X C i = (Cert.ReferenceIdeal.Hand.best (distAll X C) i).2 := by
  obtain ⟨r, rfl⟩ : ∃ r : Fin 8192, i = ix1 r := ⟨i 0, eq_ix1 i⟩
  obtain ⟨a, ha, hka⟩ := idxAt_apply X C (blockNo r) (inBlock r)
  obtain ⟨b, hb, hrb⟩ := Cert.ReferenceIdeal.Hand.best_apply (distAll X C) r
  rw [idxAll_at, hka, hrb]
  simp only [distAll_at] at hb
  rw [ha.unique hb]

/-- With every entry a real number, the kernel's assignments are the reference's. -/
theorem idx_eq (X : Vec Ideal S8192x768 .f32) (C : Vec Ideal S768x2048 .f32) (hX : ∀ i, ∃ r : ℝ, X i = (r : EReal))
    (hC : ∀ i, ∃ r : ℝ, C i = (r : EReal)) : idxAll X C = Cert.ReferenceIdeal.Hand.idx X C := by
  rw [Cert.ReferenceIdeal.Hand.idx_eq_best, ← dist_eq X C hX hC]
  exact Cert.ReferenceIdeal.Hand.seconds_eq _ _ (idxAll_best X C)

/-- The precondition's two broadcasts of a scalar fit. -/
theorem pre_facts : Cert.Pre_finite.Facts where
  bcast_S_S8192x768 := by decide
  bcast_S_S768x2048 := by decide

/-- An extended real whose absolute value is below the greatest is a real number. -/
theorem real_of_abs_lt (a : EReal) (h : max a (-a) < ⊤) : ∃ r : ℝ, a = (r : EReal) := by
  induction a with
  | bot => simp at h
  | top => simp at h
  | coe r => exact ⟨r, rfl⟩

/-- What the precondition's comparison says of one entry. -/
theorem real_of_cmp (a : Ideal .f32)
    (h : FloatOps.cmpf .olt (max (show EReal from a) (-(show EReal from a)) : Ideal .f32) (Ideal.ofBits .f32 0x7F800000#32) = 1#1) :
    ∃ r : ℝ, a = (r : EReal) := by
  rw [Ideal.cmpf_def, start_top] at h
  refine real_of_abs_lt a (not_not.mp fun hn => ?_)
  simp [Ideal.cmp, hn] at h

/-- The precondition makes every entry of both inputs a real number. -/
theorem real_of_pre [Cert.Pre_finite.Facts] (X : Vec Ideal S8192x768 .f32) (C : Vec Ideal S768x2048 .f32)
    (h : (Cert.Pre_finite.fn (F := Ideal) X C).1 = (fun _ => 1#1) ∧ (Cert.Pre_finite.fn (F := Ideal) X C).2 = (fun _ => 1#1)) :
    (∀ i, ∃ r : ℝ, X i = (r : EReal)) ∧ ∀ i, ∃ r : ℝ, C i = (r : EReal) :=
  ⟨fun i => real_of_cmp (X i) (congrFun h.1 i), fun i => real_of_cmp (C i) (congrFun h.2 i)⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Original
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Equation.pre_facts

/-- The idealized kernel ends from any memory, with its arguments unchanged and its counters at zero. -/
theorem kernelIdeal_frame : Cert.quiescent_KernelIdeal := fun m ρ _ =>
  (θ_run _ _ _).mono (fun _ h => ⟨fun c => (h.1 c).2.2, h.2⟩) (Cert.KernelIdeal.Hand.run (F := Ideal) m ρ)

/-- The reference ends from any memory, with its arguments unchanged and its counters at zero. -/
theorem reference_frame : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Hand.run (F := Ideal) m ρ)

/-- From finite inputs, the idealized kernel and the reference end with the same assignments and the same distances. -/
theorem equal_results : Cert.algebraic_KernelIdeal_ReferenceIdeal_pre_finite := fun m ρ m' ρ' hpre hag =>
  ⟨fun c => Cert.KernelIdeal.Hand.idxAll (Cert.KernelIdeal.Hand.argX m c) (Cert.KernelIdeal.Hand.argC m c),
    fun c => Cert.KernelIdeal.Hand.distAll (Cert.KernelIdeal.Hand.argX m c) (Cert.KernelIdeal.Hand.argC m c),
    (θ_run _ _ _).mono (fun _ h => h.1) (Cert.KernelIdeal.Hand.run (F := Ideal) m ρ),
    (θ_run _ _ _).mono (fun _ h c => by
      obtain ⟨hX, hC⟩ := Cert.Equation.real_of_pre _ _ (hpre c)
      obtain ⟨h1, h2, h3⟩ := h c
      refine ⟨h1.trans ?_, h2.trans ?_, h3⟩
      · rw [(hag c).1, (hag c).2]
        exact (Cert.Equation.idx_eq _ _ hX hC).symm
      · rw [(hag c).1, (hag c).2]
        exact (Cert.Equation.dist_eq _ _ hX hC).symm) (Cert.ReferenceIdeal.Hand.run (F := Ideal) m' ρ')⟩

/-- All claims together. -/
theorem claim : Cert.Claim :=
  ⟨Cert.Kernel.Gen.facts, Cert.KernelIdeal.Gen.facts, Cert.ReferenceIdeal.Gen.facts, Cert.Equation.pre_facts,
    Cert.Original.frame,
    kernelIdeal_frame, fun m ρ _ => kernelIdeal_frame m ρ trivial,
    reference_frame, fun m ρ _ => reference_frame m ρ trivial,
    trivial, equal_results⟩

end Cert.Proof

end
